-- ==== Defs.lean ====
def Pre_Kernel [hPre_anchor_in_table : Cert.Pre_anchor_in_table.Facts] (m : (ℓ : Loc Cert.Kernel.nD Cert.Kernel.τ Cert.Kernel.sig) → Buf (Elt Bits) ℓ) : Prop :=
  ∀ c : Dev Cert.Kernel.nD,
    (Cert.Pre_anchor_in_table.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_anchor_in_table : Cert.Pre_anchor_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_anchor_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_scores_apart [hPre_scores_apart : Cert.Pre_scores_apart.Facts] (m : (ℓ : Loc Cert.KernelIdeal.nD Cert.KernelIdeal.τ Cert.KernelIdeal.sig) → Buf (Elt Ideal) ℓ) : Prop :=
  ∀ c : Dev Cert.KernelIdeal.nD,
    (Cert.Pre_scores_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_apart [hPre_scores_apart : Cert.Pre_scores_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Gather [hPre_ids_in_table : Cert.Pre_ids_in_table.Facts] (m : (ℓ : Loc Cert.Gather.nD Cert.Gather.τ Cert.Gather.sig) → Buf (Elt Bits) ℓ) : Prop :=
  ∀ c : Dev Cert.Gather.nD,
    (Cert.Pre_ids_in_table.fn (F := Bits) (m ((c.tc : Thread Cert.Gather.nD Cert.Gather.τ).loc Cert.Gather.main_arg0)) (m ((c.tc : Thread Cert.Gather.nD Cert.Gather.τ).loc Cert.Gather.main_arg1)) (m ((c.tc : Thread Cert.Gather.nD Cert.Gather.τ).loc Cert.Gather.main_arg2)) (m ((c.tc : Thread Cert.Gather.nD Cert.Gather.τ).loc Cert.Gather.main_arg3))) = (fun _ => 1#1)

def Pre_GatherIdeal [hPre_ids_in_table : Cert.Pre_ids_in_table.Facts] (m : (ℓ : Loc Cert.GatherIdeal.nD Cert.GatherIdeal.τ Cert.GatherIdeal.sig) → Buf (Elt Ideal) ℓ) : Prop :=
  ∀ c : Dev Cert.GatherIdeal.nD,
    (Cert.Pre_ids_in_table.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1)) (m ((c.tc : Thread Cert.GatherIdeal.nD Cert.GatherIdeal.τ).loc Cert.GatherIdeal.main_arg2)) (m ((c.tc : Thread Cert.GatherIdeal.nD Cert.GatherIdeal.τ).loc Cert.GatherIdeal.main_arg3))) = (fun _ => 1#1)

def Pre_RowsIdeal (m : (ℓ : Loc Cert.RowsIdeal.nD Cert.RowsIdeal.τ Cert.RowsIdeal.sig) → Buf (Elt Ideal) ℓ) : Prop :=
  True

def Pre_RowsIdeal_ids_in_table [hPre_ids_in_table : Cert.Pre_ids_in_table.Facts] (m : (ℓ : Loc Cert.RowsIdeal.nD Cert.RowsIdeal.τ Cert.RowsIdeal.sig) → Buf (Elt Ideal) ℓ) : Prop :=
  ∀ c : Dev Cert.RowsIdeal.nD,
    (Cert.Pre_ids_in_table.fn (F := Ideal) (m ((c.tc : Thread Cert.RowsIdeal.nD Cert.RowsIdeal.τ).loc Cert.RowsIdeal.main_arg0)) (m ((c.tc : Thread Cert.RowsIdeal.nD Cert.RowsIdeal.τ).loc Cert.RowsIdeal.main_arg1)) (m ((c.tc : Thread Cert.RowsIdeal.nD Cert.RowsIdeal.τ).loc Cert.RowsIdeal.main_arg2)) (m ((c.tc : Thread Cert.RowsIdeal.nD Cert.RowsIdeal.τ).loc Cert.RowsIdeal.main_arg3))) = (fun _ => 1#1)

def quiescent_Kernel [hKernel : Cert.Kernel.Facts] [hPre_anchor_in_table : Cert.Pre_anchor_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_anchor_in_table : Cert.Pre_anchor_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scores_apart [hKernelIdeal : Cert.KernelIdeal.Facts] [hPre_scores_apart : Cert.Pre_scores_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scores_apart [hReferenceIdeal : Cert.ReferenceIdeal.Facts] [hPre_scores_apart : Cert.Pre_scores_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Gather [hGather : Cert.Gather.Facts] [hPre_ids_in_table : Cert.Pre_ids_in_table.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3))
      ∧ r.2.sem = fun _ => 0)

def quiescent_GatherIdeal [hGatherIdeal : Cert.GatherIdeal.Facts] [hPre_ids_in_table : Cert.Pre_ids_in_table.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
      ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
      ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3))
      ∧ r.2.sem = fun _ => 0)

def quiescent_RowsIdeal_pre_ids_in_table [hRowsIdeal : Cert.RowsIdeal.Facts] [hPre_ids_in_table : Cert.Pre_ids_in_table.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal_ids_in_table m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
      ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2)
      ∧ r.2.mem ((c.tc : Thread Cert.RowsIdeal.nD Cert.RowsIdeal.τ).loc Cert.RowsIdeal.main_arg3) = m ((c.tc : Thread Cert.RowsIdeal.nD Cert.RowsIdeal.τ).loc Cert.RowsIdeal.main_arg3))
      ∧ r.2.sem = fun _ => 0)

def preserves_Kernel_KernelIdeal : Prop :=
  True

def algebraic_KernelIdeal_ReferenceIdeal_pre_scores_apart [hKernelIdeal : Cert.KernelIdeal.Facts] [hReferenceIdeal : Cert.ReferenceIdeal.Facts] [hPre_scores_apart : Cert.Pre_scores_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Gather_GatherIdeal : Prop :=
  True

def algebraic_GatherIdeal_RowsIdeal [hGatherIdeal : Cert.GatherIdeal.Facts] [hRowsIdeal : Cert.RowsIdeal.Facts] [hPre_ids_in_table : Cert.Pre_ids_in_table.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.RowsIdeal.nD Cert.RowsIdeal.τ Cert.RowsIdeal.sig) → Buf (Elt Ideal) ℓ) (g' : Dev Cert.RowsIdeal.nD → PrngReg), Pre_GatherIdeal m →
    (∀ c : Dev Cert.GatherIdeal.nD,
      m' ((c.tc : Thread Cert.RowsIdeal.nD Cert.RowsIdeal.τ).loc Cert.RowsIdeal.main_arg0) = m ((c.tc : Thread Cert.GatherIdeal.nD Cert.GatherIdeal.τ).loc Cert.GatherIdeal.main_arg0)
      ∧ m' ((c.tc : Thread Cert.RowsIdeal.nD Cert.RowsIdeal.τ).loc Cert.RowsIdeal.main_arg1) = m ((c.tc : Thread Cert.GatherIdeal.nD Cert.GatherIdeal.τ).loc Cert.GatherIdeal.main_arg1)
      ∧ m' ((c.tc : Thread Cert.RowsIdeal.nD Cert.RowsIdeal.τ).loc Cert.RowsIdeal.main_arg2) = m ((c.tc : Thread Cert.GatherIdeal.nD Cert.GatherIdeal.τ).loc Cert.GatherIdeal.main_arg2)
      ∧ m' ((c.tc : Thread Cert.RowsIdeal.nD Cert.RowsIdeal.τ).loc Cert.RowsIdeal.main_arg3) = m ((c.tc : Thread Cert.GatherIdeal.nD Cert.GatherIdeal.τ).loc Cert.GatherIdeal.main_arg3)) →
    ∃ (v0 : (c : Dev Cert.GatherIdeal.nD) → Buf (Elt Ideal) ((c.tc : Thread Cert.GatherIdeal.nD Cert.GatherIdeal.τ).loc Cert.GatherIdeal.main_v7)) (v1 : (c : Dev Cert.GatherIdeal.nD) → Buf (Elt Ideal) ((c.tc : Thread Cert.GatherIdeal.nD Cert.GatherIdeal.τ).loc Cert.GatherIdeal.main_v10)) (v2 : (c : Dev Cert.GatherIdeal.nD) → Buf (Elt Ideal) ((c.tc : Thread Cert.GatherIdeal.nD Cert.GatherIdeal.τ).loc Cert.GatherIdeal.main_v13)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v7) = v0 c
          ∧ r.2.mem ((c.tc : Thread Cert.GatherIdeal.nD Cert.GatherIdeal.τ).loc Cert.GatherIdeal.main_v10) = v1 c
          ∧ r.2.mem ((c.tc : Thread Cert.GatherIdeal.nD Cert.GatherIdeal.τ).loc Cert.GatherIdeal.main_v13) = v2 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3))
      ∧ θ_run (Cert.RowsIdeal.defs (F := Ideal)) (onTc (τ := Cert.RowsIdeal.τ) (Cert.RowsIdeal.main (F := Ideal))) ⟨m', fun _ => 0, g'⟩ (fun r => ∀ c : Dev Cert.RowsIdeal.nD,
          r.2.mem ((c.tc : Thread Cert.RowsIdeal.nD Cert.RowsIdeal.τ).loc Cert.RowsIdeal.main_v2) = v0 c
          ∧ r.2.mem ((c.tc : Thread Cert.RowsIdeal.nD Cert.RowsIdeal.τ).loc Cert.RowsIdeal.main_v4) = v1 c
          ∧ r.2.mem ((c.tc : Thread Cert.RowsIdeal.nD Cert.RowsIdeal.τ).loc Cert.RowsIdeal.main_v6) = v2 c
          ∧ r.2.mem ((c.tc : Thread Cert.RowsIdeal.nD Cert.RowsIdeal.τ).loc Cert.RowsIdeal.main_arg0) = m' ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m' ((c.tc : Thread Cert.RowsIdeal.nD Cert.RowsIdeal.τ).loc Cert.RowsIdeal.main_arg1)
          ∧ r.2.mem ((c.tc : Thread Cert.RowsIdeal.nD Cert.RowsIdeal.τ).loc Cert.RowsIdeal.main_arg2) = m' ((c.tc : Thread Cert.RowsIdeal.nD Cert.RowsIdeal.τ).loc Cert.RowsIdeal.main_arg2)
          ∧ r.2.mem ((c.tc : Thread Cert.RowsIdeal.nD Cert.RowsIdeal.τ).loc Cert.RowsIdeal.main_arg3) = m' ((c.tc : Thread Cert.RowsIdeal.nD Cert.RowsIdeal.τ).loc Cert.RowsIdeal.main_arg3))

def Claim : Prop :=
  ∃ (hKernel : Cert.Kernel.Facts) (hKernelIdeal : Cert.KernelIdeal.Facts) (hReferenceIdeal : Cert.ReferenceIdeal.Facts) (hGather : Cert.Gather.Facts) (hGatherIdeal : Cert.GatherIdeal.Facts) (hRowsIdeal : Cert.RowsIdeal.Facts) (hPre_anchor_in_table : Cert.Pre_anchor_in_table.Facts) (hPre_scores_apart : Cert.Pre_scores_apart.Facts) (hPre_ids_in_table : Cert.Pre_ids_in_table.Facts),
    quiescent_Kernel (hKernel := hKernel) (hPre_anchor_in_table := hPre_anchor_in_table)
    ∧ quiescent_KernelIdeal (hKernelIdeal := hKernelIdeal) (hPre_anchor_in_table := hPre_anchor_in_table)
    ∧ quiescent_KernelIdeal_pre_scores_apart (hKernelIdeal := hKernelIdeal) (hPre_scores_apart := hPre_scores_apart)
    ∧ quiescent_ReferenceIdeal (hReferenceIdeal := hReferenceIdeal)
    ∧ quiescent_ReferenceIdeal_pre_scores_apart (hReferenceIdeal := hReferenceIdeal) (hPre_scores_apart := hPre_scores_apart)
    ∧ quiescent_Gather (hGather := hGather) (hPre_ids_in_table := hPre_ids_in_table)
    ∧ quiescent_GatherIdeal (hGatherIdeal := hGatherIdeal) (hPre_ids_in_table := hPre_ids_in_table)
    ∧ quiescent_RowsIdeal (hRowsIdeal := hRowsIdeal)
    ∧ quiescent_RowsIdeal_pre_ids_in_table (hRowsIdeal := hRowsIdeal) (hPre_ids_in_table := hPre_ids_in_table)
    ∧ preserves_Kernel_KernelIdeal
    ∧ algebraic_KernelIdeal_ReferenceIdeal_pre_scores_apart (hKernelIdeal := hKernelIdeal) (hReferenceIdeal := hReferenceIdeal) (hPre_scores_apart := hPre_scores_apart)
    ∧ preserves_Gather_GatherIdeal
    ∧ algebraic_GatherIdeal_RowsIdeal (hGatherIdeal := hGatherIdeal) (hRowsIdeal := hRowsIdeal) (hPre_ids_in_table := hPre_ids_in_table)
-- ==== Pre_anchor_in_table.lean ====
abbrev S1024x3 : Shape := ⟨2, ![1024, 3]⟩
abbrev S1000000x64 : Shape := ⟨2, ![1000000, 64]⟩
abbrev S1x1 : Shape := ⟨2, ![1, 1]⟩
abbrev S_ : Shape := ⟨0, ![]⟩

class Facts : Prop where
  slices_S1024x3_S1x1_1023_0 : S1024x3.Slices ![1023, 0] S1x1
  shapeCasts_S1x1_S_ : S1x1.ShapeCasts S_

variable [Facts]

def fn {F : FTy → Type} [FloatOps F] (main_arg0 : IVec S1024x3 32) (main_arg1 : FVec F S1000000x64 .f32) : IVec S_ 1 :=
  let main_v0 : IVec S1x1 32 := (extractStridedSlice S1x1 ![1023, 0] · slices_S1024x3_S1x1_1023_0) main_arg0
  let main_v1 : IVec S_ 32 := shapeCast S_ main_v0 shapeCasts_S1x1_S_
  let main_c : IVec S_ 32 := constantI S_ 32 0#32
  let main_v2 : IVec S_ 1 := cmpi .sge main_v1 main_c
  let main_v3 : IVec S1x1 32 := (extractStridedSlice S1x1 ![1023, 0] · slices_S1024x3_S1x1_1023_0) main_arg0
  let main_v4 : IVec S_ 32 := shapeCast S_ main_v3 shapeCasts_S1x1_S_
  let main_c_0 : IVec S_ 32 := constantI S_ 32 1000000#32
  let main_v5 : IVec S_ 1 := cmpi .slt main_v4 main_c_0
  let main_v6 : IVec S_ 1 := andi main_v2 main_v5
  main_v6
-- ==== Pre_ids_in_table.lean ====
abbrev S1024x3 : Shape := ⟨2, ![1024, 3]⟩
abbrev S10 : Shape := ⟨1, ![10]⟩
abbrev S1000000x64 : Shape := ⟨2, ![1000000, 64]⟩
abbrev S1x1 : Shape := ⟨2, ![1, 1]⟩
abbrev S_ : Shape := ⟨0, ![]⟩

class Facts : Prop where
  slices_S1024x3_S1x1_1023_0 : S1024x3.Slices ![1023, 0] S1x1
  shapeCasts_S1x1_S_ : S1x1.ShapeCasts S_
  bcast_S_S10 : S_.BroadcastsInDim S10 (![] : Fin 0 → Fin S10.rank)
  reducesTo_S10_S_d0 : S10.ReducesTo [0] S_
  h_S_ : 0 < S_.numel

variable [Facts]

def fn_part1 {F : FTy → Type} [FloatOps F] (main_v6 : IVec S_ 1) (main_v12 : IVec S_ 1) (main_v14 : IVec S10 1) (main_v16 : IVec S10 1) : IVec S_ 1 :=
  let main_v17 : IVec S10 1 := andi main_v14 main_v16
  let main_c_6 : IVec S_ 1 := constantI S_ 1 1#1
  let main_v18 : IVec S_ 1 := (fun x v => Host.reduce IntOp.andi x v reducesTo_S10_S_d0 h_S_) main_v17 main_c_6
  let main_v19 : IVec S_ 1 := andi main_v6 main_v12
  let main_v20 : IVec S_ 1 := andi main_v19 main_v18
  main_v20

def fn {F : FTy → Type} [FloatOps F] (main_arg0 : IVec S1024x3 32) (main_arg1 : IVec S10 32) (main_arg2 : IVec S10 32) (main_arg3 : FVec F S1000000x64 .f32) : IVec S_ 1 :=
  let main_v0 : IVec S1x1 32 := (extractStridedSlice S1x1 ![1023, 0] · slices_S1024x3_S1x1_1023_0) main_arg0
  let main_v1 : IVec S_ 32 := shapeCast S_ main_v0 shapeCasts_S1x1_S_
  let main_c : IVec S_ 32 := constantI S_ 32 0#32
  let main_v2 : IVec S_ 1 := cmpi .sge main_v1 main_c
  let main_v3 : IVec S1x1 32 := (extractStridedSlice S1x1 ![1023, 0] · slices_S1024x3_S1x1_1023_0) main_arg0
  let main_v4 : IVec S_ 32 := shapeCast S_ main_v3 shapeCasts_S1x1_S_
  let main_c_0 : IVec S_ 32 := constantI S_ 32 1000000#32
  let main_v5 : IVec S_ 1 := cmpi .slt main_v4 main_c_0
  let main_v6 : IVec S_ 1 := andi main_v2 main_v5
  let main_c_1 : IVec S_ 32 := constantI S_ 32 0#32
  let main_v7 : IVec S10 32 := broadcastInDim S10 ![] bcast_S_S10 main_c_1
  let main_v8 : IVec S10 1 := cmpi .sge main_arg1 main_v7
  let main_c_2 : IVec S_ 32 := constantI S_ 32 1000000#32
  let main_v9 : IVec S10 32 := broadcastInDim S10 ![] bcast_S_S10 main_c_2
  let main_v10 : IVec S10 1 := cmpi .slt main_arg1 main_v9
  let main_v11 : IVec S10 1 := andi main_v8 main_v10
  let main_c_3 : IVec S_ 1 := constantI S_ 1 1#1
  let main_v12 : IVec S_ 1 := (fun x v => Host.reduce IntOp.andi x v reducesTo_S10_S_d0 h_S_) main_v11 main_c_3
  let main_c_4 : IVec S_ 32 := constantI S_ 32 0#32
  let main_v13 : IVec S10 32 := broadcastInDim S10 ![] bcast_S_S10 main_c_4
  let main_v14 : IVec S10 1 := cmpi .sge main_arg2 main_v13
  let main_c_5 : IVec S_ 32 := constantI S_ 32 1000000#32
  let main_v15 : IVec S10 32 := broadcastInDim S10 ![] bcast_S_S10 main_c_5
  let main_v16 : IVec S10 1 := cmpi .slt main_arg2 main_v15
  fn_part1 (F := F) main_v6 main_v12 main_v14 main_v16
-- ==== Pre_scores_apart.lean ====
abbrev S1024x3 : Shape := ⟨2, ![1024, 3]⟩
abbrev S1000000x64 : Shape := ⟨2, ![1000000, 64]⟩
abbrev S1x1 : Shape := ⟨2, ![1, 1]⟩
abbrev S_ : Shape := ⟨0, ![]⟩
abbrev S1 : Shape := ⟨1, ![1]⟩
abbrev S64 : Shape := ⟨1, ![64]⟩
abbrev S1x64 : Shape := ⟨2, ![1, 64]⟩
abbrev S64x1000000 : Shape := ⟨2, ![64, 1000000]⟩
abbrev S1x1000000 : Shape := ⟨2, ![1, 1000000]⟩
abbrev S1x11 : Shape := ⟨2, ![1, 11]⟩
abbrev S1x10 : Shape := ⟨2, ![1, 10]⟩
abbrev S10 : Shape := ⟨1, ![10]⟩

class Facts : Prop where
  slices_S1024x3_S1x1_1023_0 : S1024x3.Slices ![1023, 0] S1x1
  shapeCasts_S1x1_S_ : S1x1.ShapeCasts S_
  bcast_S_S1 : S_.BroadcastsInDim S1 (![] : Fin 0 → Fin S1.rank)
  reducesTo_S1_S_d0 : S1.ReducesTo [0] S_
  h_S_ : 0 < S_.numel
  bcast_S_S64 : S_.BroadcastsInDim S64 (![] : Fin 0 → Fin S64.rank)
  shapeCasts_S64_S1x64 : S64.ShapeCasts S1x64
  transposes_S1000000x64_S64x1000000_1_0 : S1000000x64.Transposes [1, 0] S64x1000000
  sliceFits_S1x1000000_S1x11 : S1x1000000.Slices (fun _ => 0) S1x11
  bcast_S_S1000000x64 : S_.BroadcastsInDim S1000000x64 (![] : Fin 0 → Fin S1000000x64.rank)
  reducesTo_S1000000x64_S_d0_1 : S1000000x64.ReducesTo [0, 1] S_
  slices_S1x11_S1x10_0_0 : S1x11.Slices ![0, 0] S1x10
  shapeCasts_S1x10_S10 : S1x10.ShapeCasts S10
  slices_S1x11_S1x10_0_1 : S1x11.Slices ![0, 1] S1x10
  reducesTo_S10_S_d0 : S10.ReducesTo [0] S_
  gather_S1000000x64_S1_S64_0_0_n_n_0_0_164_wf : GatherDims.WF S1000000x64 S1 S64 [0] [0] [] [0] [] 0 ![1, 64]
  dot_S1x64_S64x1000000_S1x1000000_1_0_0_1_n_n_wf : DotDims.WF S1x64 S64x1000000 S1x1000000 [1] [0] [0] [1] [] []

variable [Facts]

def gather_S1000000x64_S1_S64_0_0_n_n_0_0_164 : GatherDims S1000000x64 S1 S64 where
  offsetDims := [0]
  collapsedSliceDims := [0]
  operandBatchingDims := []
  startIndicesBatchingDims := []
  startIndexMap := [0]
  indexVectorDim := 0
  sliceSizes := ![1, 64]
  wf := gather_S1000000x64_S1_S64_0_0_n_n_0_0_164_wf
def dot_S1x64_S64x1000000_S1x1000000_1_0_0_1_n_n : DotDims S1x64 S64x1000000 S1x1000000 where
  lhsContracting := [1]
  rhsContracting := [0]
  lhsNonContracting := [0]
  rhsNonContracting := [1]
  lhsBatch := []
  rhsBatch := []
  wf := dot_S1x64_S64x1000000_S1x1000000_1_0_0_1_n_n_wf
def fn_where {F : FTy → Type} [FloatOps F] (arg0 : IVec S_ 1) (arg1 : IVec S_ 32) (arg2 : IVec S_ 32) : IVec S_ 32 :=
  let v0 : IVec S_ 32 := select arg0 arg1 arg2
  v0

def fn_take {F : FTy → Type} [FloatOps F] (arg0 : FVec F S1000000x64 .f32) (arg1 : IVec S_ 32) : FVec F S64 .f32 :=
  let c : IVec S_ 32 := constantI S_ 32 0#32
  let v0 : IVec S_ 1 := cmpi .slt arg1 c
  let c_0 : IVec S_ 32 := constantI S_ 32 1000000#32
  let v1 : IVec S_ 32 := addi arg1 c_0
  let v2 : IVec S_ 32 := fn_where (F := F) v0 v1 arg1
  let v3 : IVec S1 32 := broadcastInDim S1 ![] bcast_S_S1 v2
  let c_1 : IVec S1 32 := constantI S1 32 999999#32
  let c_2 : IVec S_ 32 := constantI S_ 32 0#32
  let v4 : IVec S1 32 := broadcastInDim S1 ![] bcast_S_S1 c_2
  let v5 : IVec S1 1 := cmpi .sge v3 v4
  let v6 : IVec S1 1 := cmpi .sle v3 c_1
  let v7 : IVec S1 1 := andi v5 v6
  let c_3 : IVec S_ 1 := constantI S_ 1 1#1
  let v8 : IVec S_ 1 := (fun x v => Host.reduce IntOp.andi x v reducesTo_S1_S_d0 h_S_) v7 c_3
  let v9 : FVec F S64 .f32 := (fun x i => Host.gather gather_S1000000x64_S1_S64_0_0_n_n_0_0_164 x i) arg0 v3
  let v10 : IVec S64 1 := broadcastInDim S64 ![] bcast_S_S64 v8
  let cst : FVec F S_ .f32 := constant S_ .f32 0x7FC00000#32
  let v11 : FVec F S64 .f32 := broadcastInDim S64 ![] bcast_S_S64 cst
  let v12 : FVec F S64 .f32 := select v10 v9 v11
  v12

def fn_part1 {F : FTy → Type} [FloatOps F] (main_values : FVec F S1x11 .f32) (main_values_0 : FVec F S1x11 .f32) (main_v11 : IVec S_ 1) (main_v15 : IVec S_ 1) : IVec S_ 1 :=
  let main_v16 : FVec F S1x10 .f32 := (extractStridedSlice S1x10 ![0, 0] · slices_S1x11_S1x10_0_0) main_values
  let main_v17 : FVec F S10 .f32 := shapeCast S10 main_v16 shapeCasts_S1x10_S10
  let main_v18 : FVec F S1x10 .f32 := (extractStridedSlice S1x10 ![0, 1] · slices_S1x11_S1x10_0_1) main_values
  let main_v19 : FVec F S10 .f32 := shapeCast S10 main_v18 shapeCasts_S1x10_S10
  let main_v20 : IVec S10 1 := cmpf .ogt main_v17 main_v19
  let main_c_4 : IVec S_ 1 := constantI S_ 1 1#1
  let main_v21 : IVec S_ 1 := (fun x v => Host.reduce IntOp.andi x v reducesTo_S10_S_d0 h_S_) main_v20 main_c_4
  let main_v22 : FVec F S1x10 .f32 := (extractStridedSlice S1x10 ![0, 0] · slices_S1x11_S1x10_0_0) main_values_0
  let main_v23 : FVec F S10 .f32 := shapeCast S10 main_v22 shapeCasts_S1x10_S10
  let main_v24 : FVec F S1x10 .f32 := (extractStridedSlice S1x10 ![0, 1] · slices_S1x11_S1x10_0_1) main_values_0
  let main_v25 : FVec F S10 .f32 := shapeCast S10 main_v24 shapeCasts_S1x10_S10
  let main_v26 : IVec S10 1 := cmpf .ogt main_v23 main_v25
  let main_c_5 : IVec S_ 1 := constantI S_ 1 1#1
  let main_v27 : IVec S_ 1 := (fun x v => Host.reduce IntOp.andi x v reducesTo_S10_S_d0 h_S_) main_v26 main_c_5
  let main_v28 : IVec S_ 1 := andi main_v21 main_v27
  let main_v29 : IVec S_ 1 := andi main_v11 main_v15
  let main_v30 : IVec S_ 1 := andi main_v29 main_v28
  main_v30

def fn {F : FTy → Type} [FloatOps F] (main_arg0 : IVec S1024x3 32) (main_arg1 : FVec F S1000000x64 .f32) : IVec S_ 1 :=
  let main_v0 : IVec S1x1 32 := (extractStridedSlice S1x1 ![1023, 0] · slices_S1024x3_S1x1_1023_0) main_arg0
  let main_v1 : IVec S_ 32 := shapeCast S_ main_v0 shapeCasts_S1x1_S_
  let main_v2 : FVec F S64 .f32 := fn_take (F := F) main_arg1 main_v1
  let main_v3 : FVec F S1x64 .f32 := shapeCast S1x64 main_v2 shapeCasts_S64_S1x64
  let main_v4 : FVec F S64x1000000 .f32 := (transpose S64x1000000 [1, 0] · transposes_S1000000x64_S64x1000000_1_0) main_arg1
  let main_v5 : FVec F S1x1000000 .f32 := (fun l r => Host.dotGeneral dot_S1x64_S64x1000000_S1x1000000_1_0_0_1_n_n none l r) main_v3 main_v4
  let main_values : FVec F S1x11 .f32 := (fun x => (Host.topK S1x11 1 (FloatOps.cmpfTotal .gt) x sliceFits_S1x1000000_S1x11).1) main_v5
  let main_indices : IVec S1x11 32 := (fun x => (Host.topK S1x11 1 (FloatOps.cmpfTotal .gt) x sliceFits_S1x1000000_S1x11).2) main_v5
  let main_v6 : FVec F S1x64 .f32 := Host.negf main_v3
  let main_v7 : FVec F S64x1000000 .f32 := (transpose S64x1000000 [1, 0] · transposes_S1000000x64_S64x1000000_1_0) main_arg1
  let main_v8 : FVec F S1x1000000 .f32 := (fun l r => Host.dotGeneral dot_S1x64_S64x1000000_S1x1000000_1_0_0_1_n_n none l r) main_v6 main_v7
  let main_values_0 : FVec F S1x11 .f32 := (fun x => (Host.topK S1x11 1 (FloatOps.cmpfTotal .gt) x sliceFits_S1x1000000_S1x11).1) main_v8
  let main_indices_1 : IVec S1x11 32 := (fun x => (Host.topK S1x11 1 (FloatOps.cmpfTotal .gt) x sliceFits_S1x1000000_S1x11).2) main_v8
  let main_c : IVec S_ 32 := constantI S_ 32 0#32
  let main_v9 : IVec S_ 1 := cmpi .sge main_v1 main_c
  let main_c_2 : IVec S_ 32 := constantI S_ 32 1000000#32
  let main_v10 : IVec S_ 1 := cmpi .slt main_v1 main_c_2
  let main_v11 : IVec S_ 1 := andi main_v9 main_v10
  let main_v12 : FVec F S1000000x64 .f32 := Host.absf main_arg1
  let main_cst : FVec F S_ .f32 := constant S_ .f32 0x7F800000#32
  let main_v13 : FVec F S1000000x64 .f32 := broadcastInDim S1000000x64 ![] bcast_S_S1000000x64 main_cst
  let main_v14 : IVec S1000000x64 1 := cmpf .olt main_v12 main_v13
  let main_c_3 : IVec S_ 1 := constantI S_ 1 1#1
  let main_v15 : IVec S_ 1 := (fun x v => Host.reduce IntOp.andi x v reducesTo_S1000000x64_S_d0_1 h_S_) main_v14 main_c_3
  fn_part1 (F := F) main_values main_values_0 main_v11 main_v15
-- ==== Kernel.lean ====
abbrev S1024x3 : Shape := ⟨2, ![1024, 3]⟩
abbrev S1000000x64 : Shape := ⟨2, ![1000000, 64]⟩
abbrev S1x1 : Shape := ⟨2, ![1, 1]⟩
abbrev S_ : Shape := ⟨0, ![]⟩
abbrev S1 : Shape := ⟨1, ![1]⟩
abbrev S1000000x1x64 : Shape := ⟨3, ![1000000, 1, 64]⟩
abbrev S8x128 : Shape := ⟨2, ![8, 128]⟩
abbrev S1x1x64 : Shape := ⟨3, ![1, 1, 64]⟩
abbrev S8192x64 : Shape := ⟨2, ![8192, 64]⟩
abbrev S10x8x128 : Shape := ⟨3, ![10, 8, 128]⟩
abbrev S1x64 : Shape := ⟨2, ![1, 64]⟩
abbrev S1x8192 : Shape := ⟨2, ![1, 8192]⟩
abbrev S1x64x128 : Shape := ⟨3, ![1, 64, 128]⟩
abbrev S1x8x128 : Shape := ⟨3, ![1, 8, 128]⟩
abbrev S1x10x8x128 : Shape := ⟨4, ![1, 10, 8, 128]⟩
abbrev S1x1x1x1 : Shape := ⟨4, ![1, 1, 1, 1]⟩
abbrev S1x10 : Shape := ⟨2, ![1, 10]⟩
abbrev S10 : Shape := ⟨1, ![10]⟩

abbrev nBuf : Space → Nat
  | .hbm => 11
  | .vmem => 9
  | .smem => 1
  | _ => 0

abbrev bufTy : (tb : Table) → Fin (tcTables nBuf tb) → BufTy
  | .hbm, ⟨0, _⟩ => ⟨S1024x3, .i32⟩
  | .hbm, ⟨1, _⟩ => ⟨S1000000x64, .f32⟩
  | .hbm, ⟨2, _⟩ => ⟨S1x1, .i32⟩
  | .hbm, ⟨3, _⟩ => ⟨S_, .i32⟩
  | .hbm, ⟨4, _⟩ => ⟨S1000000x1x64, .f32⟩
  | .hbm, ⟨5, _⟩ => ⟨S8x128, .i32⟩
  | .hbm, ⟨6, _⟩ => ⟨S8x128, .i32⟩
  | .hbm, ⟨7, _⟩ => ⟨S1x10, .i32⟩
  | .hbm, ⟨8, _⟩ => ⟨S10, .i32⟩
  | .hbm, ⟨9, _⟩ => ⟨S1x10, .i32⟩
  | .hbm, ⟨10, _⟩ => ⟨S10, .i32⟩
  | .local _ .vmem, ⟨0, _⟩ => ⟨S1x1x64, .f32⟩
  | .local _ .vmem, ⟨1, _⟩ => ⟨S8192x64, .f32⟩
  | .local _ .vmem, ⟨2, _⟩ => ⟨S8192x64, .f32⟩
  | .local _ .vmem, ⟨3, _⟩ => ⟨S8x128, .i32⟩
  | .local _ .vmem, ⟨4, _⟩ => ⟨S8x128, .i32⟩
  | .local _ .vmem, ⟨5, _⟩ => ⟨S10x8x128, .f32⟩
  | .local _ .vmem, ⟨6, _⟩ => ⟨S10x8x128, .i32⟩
  | .local _ .vmem, ⟨7, _⟩ => ⟨S10x8x128, .f32⟩
  | .local _ .vmem, ⟨8, _⟩ => ⟨S10x8x128, .i32⟩
  | .local _ .smem, ⟨0, _⟩ => ⟨S1, .i32⟩
  | _, _ => ⟨S1024x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v3 : Ref sig .tc := ⟨.hbm, 4, rfl⟩
abbrev main_v4_0 : Ref sig .tc := ⟨.hbm, 5, rfl⟩
abbrev main_v4_1 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![123], ![false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg0 : BitVec 32 := BitVec.ofNat 32 (i 0).val
  let c122_i32 : BitVec 32 := 122#32
  let v1040 : BitVec 1 := Scalar.cmpi .eq arg0 c122_i32
  let v1041 : BitVec 32 := Scalar.extui v1040
  let c0_i32_238 : BitVec 32 := 0#32
  let v1042 : BitVec 1 := Scalar.cmpi .ne v1041 c0_i32_238
  v1042

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S1024x3 : Shape := ⟨2, ![1024, 3]⟩
abbrev S1000000x64 : Shape := ⟨2, ![1000000, 64]⟩
abbrev S1x1 : Shape := ⟨2, ![1, 1]⟩
abbrev S_ : Shape := ⟨0, ![]⟩
abbrev S1 : Shape := ⟨1, ![1]⟩
abbrev S64 : Shape := ⟨1, ![64]⟩
abbrev S1x64 : Shape := ⟨2, ![1, 64]⟩
abbrev S64x1000000 : Shape := ⟨2, ![64, 1000000]⟩
abbrev S1x1000000 : Shape := ⟨2, ![1, 1000000]⟩
abbrev S1x10 : Shape := ⟨2, ![1, 10]⟩
abbrev S10 : Shape := ⟨1, ![10]⟩

abbrev nBuf : Space → Nat
  | .hbm => 35
  | .vmem => 0
  | .smem => 0
  | _ => 0

abbrev bufTy : (tb : Table) → Fin (tcTables nBuf tb) → BufTy
  | .hbm, ⟨0, _⟩ => ⟨S1024x3, .i32⟩
  | .hbm, ⟨1, _⟩ => ⟨S1000000x64, .f32⟩
  | .hbm, ⟨2, _⟩ => ⟨S1x1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S1, .i1⟩
  | .hbm, ⟨14, _⟩ => ⟨S1, .i1⟩
  | .hbm, ⟨15, _⟩ => ⟨S1, .i1⟩
  | .hbm, ⟨16, _⟩ => ⟨S_, .i1⟩
  | .hbm, ⟨17, _⟩ => ⟨S_, .i1⟩
  | .hbm, ⟨18, _⟩ => ⟨S64, .f32⟩
  | .hbm, ⟨19, _⟩ => ⟨S64, .i1⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S1x64, .f32⟩
  | .hbm, ⟨24, _⟩ => ⟨S64x1000000, .f32⟩
  | .hbm, ⟨25, _⟩ => ⟨S1x1000000, .f32⟩
  | .hbm, ⟨26, _⟩ => ⟨S1x10, .f32⟩
  | .hbm, ⟨27, _⟩ => ⟨S1x10, .i32⟩
  | .hbm, ⟨28, _⟩ => ⟨S1x64, .f32⟩
  | .hbm, ⟨29, _⟩ => ⟨S64x1000000, .f32⟩
  | .hbm, ⟨30, _⟩ => ⟨S1x1000000, .f32⟩
  | .hbm, ⟨31, _⟩ => ⟨S1x10, .f32⟩
  | .hbm, ⟨32, _⟩ => ⟨S1x10, .i32⟩
  | .hbm, ⟨33, _⟩ => ⟨S10, .i32⟩
  | .hbm, ⟨34, _⟩ => ⟨S10, .i32⟩
  | _, _ => ⟨S1024x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_c_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_c_1 : Ref sig .tc := ⟨.hbm, 10, rfl⟩
abbrev main_call0_c_2 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_c_3 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_cst : Ref sig .tc := ⟨.hbm, 20, rfl⟩
abbrev main_call0_v11 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_values : Ref sig .tc := ⟨.hbm, 26, rfl⟩
abbrev main_indices : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_values_0 : Ref sig .tc := ⟨.hbm, 31, rfl⟩
abbrev main_indices_1 : Ref sig .tc := ⟨.hbm, 32, rfl⟩
abbrev main_v9 : Ref sig .tc := ⟨.hbm, 33, rfl⟩
abbrev main_v10 : Ref sig .tc := ⟨.hbm, 34, rfl⟩

abbrev nD : Nat := 1
abbrev τ : Topo := Topo.v7x

variable {F : FTy → Type} [FloatOps F]
-- ==== Gather.lean ====
abbrev S1024x3 : Shape := ⟨2, ![1024, 3]⟩
abbrev S10 : Shape := ⟨1, ![10]⟩
abbrev S1000000x64 : Shape := ⟨2, ![1000000, 64]⟩
abbrev S1x1 : Shape := ⟨2, ![1, 1]⟩
abbrev S_ : Shape := ⟨0, ![]⟩
abbrev S1 : Shape := ⟨1, ![1]⟩
abbrev S21 : Shape := ⟨1, ![21]⟩
abbrev S1000000x1x64 : Shape := ⟨3, ![1000000, 1, 64]⟩
abbrev S21x1x64 : Shape := ⟨3, ![21, 1, 64]⟩
abbrev S1x1x64 : Shape := ⟨3, ![1, 1, 64]⟩
abbrev S64 : Shape := ⟨1, ![64]⟩
abbrev S10x1x64 : Shape := ⟨3, ![10, 1, 64]⟩
abbrev S10x64 : Shape := ⟨2, ![10, 64]⟩
abbrev S1x10x64 : Shape := ⟨3, ![1, 10, 64]⟩

abbrev nBuf : Space → Nat
  | .hbm => 17
  | .vmem => 4
  | .smem => 1
  | _ => 0

abbrev bufTy : (tb : Table) → Fin (tcTables nBuf tb) → BufTy
  | .hbm, ⟨0, _⟩ => ⟨S1024x3, .i32⟩
  | .hbm, ⟨1, _⟩ => ⟨S10, .i32⟩
  | .hbm, ⟨2, _⟩ => ⟨S10, .i32⟩
  | .hbm, ⟨3, _⟩ => ⟨S1000000x64, .f32⟩
  | .hbm, ⟨4, _⟩ => ⟨S1x1, .i32⟩
  | .hbm, ⟨5, _⟩ => ⟨S_, .i32⟩
  | .hbm, ⟨6, _⟩ => ⟨S1, .i32⟩
  | .hbm, ⟨7, _⟩ => ⟨S1000000x1x64, .f32⟩
  | .hbm, ⟨8, _⟩ => ⟨S21x1x64, .f32⟩
  | .hbm, ⟨9, _⟩ => ⟨S1x1x64, .f32⟩
  | .hbm, ⟨10, _⟩ => ⟨S64, .f32⟩
  | .hbm, ⟨11, _⟩ => ⟨S10x1x64, .f32⟩
  | .hbm, ⟨12, _⟩ => ⟨S10x64, .f32⟩
  | .hbm, ⟨13, _⟩ => ⟨S1x10x64, .f32⟩
  | .hbm, ⟨14, _⟩ => ⟨S10x1x64, .f32⟩
  | .hbm, ⟨15, _⟩ => ⟨S10x64, .f32⟩
  | .hbm, ⟨16, _⟩ => ⟨S1x10x64, .f32⟩
  | .local _ .vmem, ⟨0, _⟩ => ⟨S1x1x64, .f32⟩
  | .local _ .vmem, ⟨1, _⟩ => ⟨S1x1x64, .f32⟩
  | .local _ .vmem, ⟨2, _⟩ => ⟨S1x1x64, .f32⟩
  | .local _ .vmem, ⟨3, _⟩ => ⟨S1x1x64, .f32⟩
  | .local _ .smem, ⟨0, _⟩ => ⟨S21, .i32⟩
  | _, _ => ⟨S1024x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![21], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S21.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S21) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RowsIdeal.lean ====
abbrev S1024x3 : Shape := ⟨2, ![1024, 3]⟩
abbrev S10 : Shape := ⟨1, ![10]⟩
abbrev S1000000x64 : Shape := ⟨2, ![1000000, 64]⟩
abbrev S1x1 : Shape := ⟨2, ![1, 1]⟩
abbrev S_ : Shape := ⟨0, ![]⟩
abbrev S1 : Shape := ⟨1, ![1]⟩
abbrev S64 : Shape := ⟨1, ![64]⟩
abbrev S1x10 : Shape := ⟨2, ![1, 10]⟩
abbrev S1x10x1 : Shape := ⟨3, ![1, 10, 1]⟩
abbrev S1x1x1 : Shape := ⟨3, ![1, 1, 1]⟩
abbrev S1x10x64 : Shape := ⟨3, ![1, 10, 64]⟩

abbrev nBuf : Space → Nat
  | .hbm => 73
  | .vmem => 0
  | .smem => 0
  | _ => 0

abbrev bufTy : (tb : Table) → Fin (tcTables nBuf tb) → BufTy
  | .hbm, ⟨0, _⟩ => ⟨S1024x3, .i32⟩
  | .hbm, ⟨1, _⟩ => ⟨S10, .i32⟩
  | .hbm, ⟨2, _⟩ => ⟨S10, .i32⟩
  | .hbm, ⟨3, _⟩ => ⟨S1000000x64, .f32⟩
  | .hbm, ⟨4, _⟩ => ⟨S1x1, .i32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S1, .i1⟩
  | .hbm, ⟨16, _⟩ => ⟨S1, .i1⟩
  | .hbm, ⟨17, _⟩ => ⟨S1, .i1⟩
  | .hbm, ⟨18, _⟩ => ⟨S_, .i1⟩
  | .hbm, ⟨19, _⟩ => ⟨S_, .i1⟩
  | .hbm, ⟨20, _⟩ => ⟨S64, .f32⟩
  | .hbm, ⟨21, _⟩ => ⟨S64, .i1⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S1x10, .i32⟩
  | .hbm, ⟨26, _⟩ => ⟨S_, .i32⟩
  | .hbm, ⟨27, _⟩ => ⟨S1x10, .i32⟩
  | .hbm, ⟨28, _⟩ => ⟨S1x10, .i1⟩
  | .hbm, ⟨29, _⟩ => ⟨S_, .i32⟩
  | .hbm, ⟨30, _⟩ => ⟨S1x10, .i32⟩
  | .hbm, ⟨31, _⟩ => ⟨S1x10, .i32⟩
  | .hbm, ⟨32, _⟩ => ⟨S1x10, .i32⟩
  | .hbm, ⟨33, _⟩ => ⟨S1x10x1, .i32⟩
  | .hbm, ⟨34, _⟩ => ⟨S1, .i32⟩
  | .hbm, ⟨35, _⟩ => ⟨S_, .i32⟩
  | .hbm, ⟨36, _⟩ => ⟨S1x10x1, .i32⟩
  | .hbm, ⟨37, _⟩ => ⟨S1x10x1, .i1⟩
  | .hbm, ⟨38, _⟩ => ⟨S1x1x1, .i32⟩
  | .hbm, ⟨39, _⟩ => ⟨S1x10x1, .i32⟩
  | .hbm, ⟨40, _⟩ => ⟨S1x10x1, .i1⟩
  | .hbm, ⟨41, _⟩ => ⟨S1x10x1, .i1⟩
  | .hbm, ⟨42, _⟩ => ⟨S_, .i1⟩
  | .hbm, ⟨43, _⟩ => ⟨S1x10, .i1⟩
  | .hbm, ⟨44, _⟩ => ⟨S1x10x64, .f32⟩
  | .hbm, ⟨45, _⟩ => ⟨S1x10x64, .i1⟩
  | .hbm, ⟨46, _⟩ => ⟨S_, .f32⟩
  | .hbm, ⟨47, _⟩ => ⟨S1x10x64, .f32⟩
  | .hbm, ⟨48, _⟩ => ⟨S1x10x64, .f32⟩
  | .hbm, ⟨49, _⟩ => ⟨S1x10, .i32⟩
  | .hbm, ⟨50, _⟩ => ⟨S_, .i32⟩
  | .hbm, ⟨51, _⟩ => ⟨S1x10, .i32⟩
  | .hbm, ⟨52, _⟩ => ⟨S1x10, .i1⟩
  | .hbm, ⟨53, _⟩ => ⟨S_, .i32⟩
  | .hbm, ⟨54, _⟩ => ⟨S1x10, .i32⟩
  | .hbm, ⟨55, _⟩ => ⟨S1x10, .i32⟩
  | .hbm, ⟨56, _⟩ => ⟨S1x10, .i32⟩
  | .hbm, ⟨57, _⟩ => ⟨S1x10x1, .i32⟩
  | .hbm, ⟨58, _⟩ => ⟨S1, .i32⟩
  | .hbm, ⟨59, _⟩ => ⟨S_, .i32⟩
  | .hbm, ⟨60, _⟩ => ⟨S1x10x1, .i32⟩
  | .hbm, ⟨61, _⟩ => ⟨S1x10x1, .i1⟩
  | .hbm, ⟨62, _⟩ => ⟨S1x1x1, .i32⟩
  | .hbm, ⟨63, _⟩ => ⟨S1x10x1, .i32⟩
  | .hbm, ⟨64, _⟩ => ⟨S1x10x1, .i1⟩
  | .hbm, ⟨65, _⟩ => ⟨S1x10x1, .i1⟩
  | .hbm, ⟨66, _⟩ => ⟨S_, .i1⟩
  | .hbm, ⟨67, _⟩ => ⟨S1x10, .i1⟩
  | .hbm, ⟨68, _⟩ => ⟨S1x10x64, .f32⟩
  | .hbm, ⟨69, _⟩ => ⟨S1x10x64, .i1⟩
  | .hbm, ⟨70, _⟩ => ⟨S_, .f32⟩
  | .hbm, ⟨71, _⟩ => ⟨S1x10x64, .f32⟩
  | .hbm, ⟨72, _⟩ => ⟨S1x10x64, .f32⟩
  | _, _ => ⟨S1024x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_c_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_c_1 : Ref sig .tc := ⟨.hbm, 12, rfl⟩
abbrev main_call0_c_2 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_c_3 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_cst : Ref sig .tc := ⟨.hbm, 22, rfl⟩
abbrev main_call0_v11 : Ref sig .tc := ⟨.hbm, 23, rfl⟩
abbrev main_v2 : Ref sig .tc := ⟨.hbm, 24, rfl⟩
abbrev main_v3 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v4 : Ref sig .tc := ⟨.hbm, 48, rfl⟩
abbrev main_v5 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_call2_c_0 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_c_1 : Ref sig .tc := ⟨.hbm, 58, rfl⟩
abbrev main_call2_c_2 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_3 : Ref sig .tc := ⟨.hbm, 66, rfl⟩
abbrev main_call2_v12 : Ref sig .tc := ⟨.hbm, 67, rfl⟩
abbrev main_call2_v13 : Ref sig .tc := ⟨.hbm, 68, rfl⟩
abbrev main_call2_v14 : Ref sig .tc := ⟨.hbm, 69, rfl⟩
abbrev main_call2_cst : Ref sig .tc := ⟨.hbm, 70, rfl⟩
abbrev main_call2_v15 : Ref sig .tc := ⟨.hbm, 71, rfl⟩
abbrev main_v6 : Ref sig .tc := ⟨.hbm, 72, rfl⟩

abbrev nD : Nat := 1
abbrev τ : Topo := Topo.v7x

variable {F : FTy → Type} [FloatOps F]
-- ==== Proof.TopRun.lean ====
module

public import proofs.«01_k».proof.Proof.Gen.Kernel.Launch
public import proofs.«01_k».proof.Proof.Gen.Kernel.Skeleton
public import Idealize.ShloMosaic.Lib.Pipeline.Regions
public import Idealize.ShloMosaic.Lib.Tactic

@[expose] public section

noncomputable section

namespace Cert.Proof.Kernel

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig Unit (Elt F) ℕ U ℕ

/-- A buffer's contents on core `c`, and the buffer held whole at them. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The condition of the first point. -/
abbrev isFirst (i : grid0.Coords) : Prop :=
  Scalar.cmpi .ne (Scalar.extui (Scalar.cmpi .eq (BitVec.ofNat 32 (i 0).val) 0#32) : BitVec 32) 0#32 = 1#1

abbrev s0 : Memref sig .tc .vmem S10x8x128 .f32 := Memref.whole cc0_scratch0
abbrev s1 : Memref sig .tc .vmem S10x8x128 .i32 := Memref.whole cc0_scratch1
abbrev s2 : Memref sig .tc .vmem S10x8x128 .f32 := Memref.whole cc0_scratch2
abbrev s3 : Memref sig .tc .vmem S10x8x128 .i32 := Memref.whole cc0_scratch3

set_option sl_exec.resultNames true in
set_option maxHeartbeats 4000000 in
/-- The body's run at any point: what it leaves in the two output buffers and in the four scratch buffers. -/
noncomputable def topRun (c : Dev nD) (i : grid0.Coords)
    (T : Memref sig .tc .smem S1 .i32) (hT : T.IsWhole)
    (M2 : Memref sig .tc .vmem S1x1x64 .f32) (h2 : M2.IsWhole) (M3 : Memref sig .tc .vmem S8192x64 .f32) (h3 : M3.IsWhole)
    (M4 : Memref sig .tc .vmem S8x128 .i32) (h4 : M4.IsWhole) (M5 : Memref sig .tc .vmem S8x128 .i32) (h5 : M5.IsWhole)
    (f2 : Bf (F := F) c M2) (f3 : Bf (F := F) c M3) (f4 : Bf (F := F) c M4) (f5 : Bf (F := F) c M5)
    (g0 : Bf (F := F) c s0) (g1 : Bf (F := F) c s1) (g2 : Bf (F := F) c s2) (g3 : Bf (F := F) c s3) :
    { W : (Bf (F := F) c M4 × Bf (F := F) c M5) × (Bf (F := F) c s0 × Bf (F := F) c s1) × (Bf (F := F) c s2 × Bf (F := F) c s3) // ∀ (E : Set ℕ) (Q : PUnit → sProp 𝕄),
        iprop(pt c M2 f2 ∗ pt c M3 f3 ∗ pt c M4 f4 ∗ pt c M5 f5 ∗ pt c s0 g0 ∗ pt c s1 g1 ∗ pt c s2 g2 ∗ pt c s3 g3
          ∗ (iprop(pt c M2 f2 ∗ pt c M3 f3 ∗ pt c M4 W.1.1 ∗ pt c M5 W.1.2
              ∗ pt c s0 W.2.1.1 ∗ pt c s1 W.2.1.2 ∗ pt c s2 W.2.2.1 ∗ pt c s3 W.2.2.2) -∗ Q ⟨⟩))
          ⊢ wp frame (wpE (defs₀ (F := F)) Variants.none c none) E
              (cc0__topk_body i T hT M2 h2 M3 h3 M4 h4 M5 h5 s0 (Memref.isWhole_whole _) s1 (Memref.isWhole_whole _) s2 (Memref.isWhole_whole _) s3 (Memref.isWhole_whole _)) Q } := by
  refine ⟨((?_, ?_), ((?_, ?_), (?_, ?_))), fun E Q => ?run⟩
  case run =>
    iintro ⟨H2, H3, H4, H5, Hs0, Hs1, Hs2, Hs3, Hk⟩
    sl_exec!
    sl_step
    iapply Hk
    isplitl [H2]; · iexact H2
    isplitl [H3]; · iexact H3
    isplitl [H4]; · iexact H4
    isplitl [H5]; · iexact H5
    isplitl [Hs0]; · iexact Hs0
    isplitl [Hs1]; · iexact Hs1
    isplitl [Hs2]; · iexact Hs2
    iexact Hs3

end Cert.Proof.Kernel

end
-- ==== Proof.Region0.lean ====
/-
  The top-k call's region and the launch around it, at any float interpretation and for any invariant of the
  four scratch buffers: from the program's arguments to what @main's two results are cut from.
-/
module

public import proofs.«01_k».proof.Proof.TopRun
public import Idealize.ShloMosaic.Lib.Pipeline.Frame
public import Idealize.ShloMosaic.Lib.Pipeline.FrameBody
public import Idealize.ShloMosaic.Lib.Pipeline.FrameSuffix
public import Idealize.ShloMosaic.Lib.Pipeline.Regions
public import Idealize.ShloMosaic.Lib.Pipeline.RegionsOwned

@[expose] public section

noncomputable section

namespace Cert.Proof.Kernel

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window HostSeg)

variable {F : FTy → Type} [FloatOps F]

/-- The algebra of the launch: the pipeline library's alone. -/
abbrev UU : Type := UR sig nD τ

local notation "𝕄" => MT nD τ sig Unit (Elt F) ℕ UU ℕ

variable (m : (ℓ : Loc nD τ sig) → Buf (Elt F) ℓ)

/-! ## The contents between the items -/

/-- Core `c`'s buffers at launch, and after the host lines before the call. -/
abbrev V0 (c : Dev nD) : Valuation τ sig (Elt F) := fun b => m (c, b)
abbrev V1 (c : Dev nD) : Valuation τ sig (Elt F) := StableHlo.after hostOps0 (V0 m c)

/-- What the call may leave in its two results. -/
abbrev Out2 (c : Dev nD) : Type := Buf (Elt F) ((c : Thread nD τ).loc main_v4_0) × Buf (Elt F) ((c : Thread nD τ).loc main_v4_1)

/-- After the call, the two results at `o`. -/
abbrev V2 (c : Dev nD) (o : Out2 (F := F) c) : Valuation τ sig (Elt F) :=
  Function.update (Function.update (V1 m c) main_v4_0 o.1) main_v4_1 o.2

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
abbrev ops0_W : List (Ref sig .tc) := [main_v0, main_v1, main_v2, main_v3]
abbrev ops1_W : List (Ref sig .tc) := [main_v5, main_v6, main_v7, main_v8]
theorem ops0_writes : (hostOps0 : List (HloOp τ sig (Elt F))).Forall fun op => op.writes ⊆ (ops0_W.map (Proc.devRef (τ := τ) .tc)).toFinset :=
  StableHlo.forall_writes_sub_of_map rfl
theorem ops1_writes : (hostOps1 : List (HloOp τ sig (Elt F))).Forall fun op => op.writes ⊆ (ops1_W.map (Proc.devRef (τ := τ) .tc)).toFinset :=
  StableHlo.forall_writes_sub_of_map rfl

theorem V1_of (c : Dev nD) (r : Ref sig .tc) (h : r ∉ ops0_W) : V1 m c r = V0 m c r :=
  StableHlo.after_of_writes_sub hostOps0 _ ops0_writes h
theorem V2_of (c : Dev nD) (o : Out2 (F := F) c) (r : Ref sig .tc) (h0 : r ≠ main_v4_0) (h1 : r ≠ main_v4_1) : V2 m c o r = V1 m c r := by
  simp only [V2, Function.update_of_ne (StableHlo.devRef_ne_of_ne h0 : (Proc.devRef .tc r : DevRef τ sig) ≠ Proc.devRef .tc main_v4_0),
    Function.update_of_ne (StableHlo.devRef_ne_of_ne h1 : (Proc.devRef .tc r : DevRef τ sig) ≠ Proc.devRef .tc main_v4_1)]
theorem V2_v4_1 (c : Dev nD) (o : Out2 (F := F) c) : V2 m c o main_v4_1 = o.2 := by simp only [V2, Function.update_self]
theorem V2_v4_0 (c : Dev nD) (o : Out2 (F := F) c) : V2 m c o main_v4_0 = o.1 := by
  simp only [V2, Function.update_of_ne (StableHlo.devRef_ne_of_ne (by decide) : (Proc.devRef .tc main_v4_0 : DevRef τ sig) ≠ Proc.devRef .tc main_v4_1),
    Function.update_self]
theorem V3_of (c : Dev nD) (o : Out2 (F := F) c) (r : Ref sig .tc) (h : r ∉ ops1_W) : StableHlo.after hostOps1 (V2 m c o) r = V2 m c o r :=
  StableHlo.after_of_writes_sub hostOps1 _ ops1_writes h

/-- The program's arguments reach the end as launched. -/
theorem V3_arg (c : Dev nD) (o : Out2 (F := F) c) (r : Ref sig .tc) (h0 : r ∉ ops0_W) (h1 : r ∉ ops1_W)
    (h2 : r ≠ main_v4_0) (h3 : r ≠ main_v4_1) :
    StableHlo.after hostOps1 (V2 m c o) r = m ((c : Thread nD τ).loc r) := by
  rw [V3_of m c o r h1, V2_of m c o r h2 h3, V1_of m c r h0]

/-! ## The call's table -/

/-- The one core. -/
abbrev c₀ : Dev nD := 0
theorem eq_c₀ (c : Dev nD) : c = c₀ := Subsingleton.elim _ _

/-- The prefetched table: the anchor id. -/
abbrev tbl : pre0.Contents (Elt F) := fun k => V1 m c₀ (pre0.ref k)

variable (hok : ok0 (tbl m))

abbrev adm : (p : Fin 1) → (pcfgs (F := F) p).Adm := fun _ => ⟨tbl m, hok⟩

abbrev cfg : Cfg sig Λ₀ := cfg0 (F := F) ⟨tbl m, hok⟩

/-- What the fetches of the anchor's row and of a block of rows stage at point `t`. -/
abbrev stg0 (c : Dev nD) (t : Fin (cfg m hok).N) (d : ((cfg m hok).win 0).block.Idx → Elt F ((cfg m hok).win 0).elt) :=
  ((cfg m hok).win 0).fill ((cfg m hok).grid.coords t) d (((((cfg m hok).win 0).blk t)).view.read (Elt F) (V1 m c main_v3))
abbrev stg1 (c : Dev nD) (t : Fin (cfg m hok).N) (d : ((cfg m hok).win 1).block.Idx → Elt F ((cfg m hok).win 1).elt) :=
  ((cfg m hok).win 1).fill ((cfg m hok).grid.coords t) d (((((cfg m hok).win 1).blk t)).view.read (Elt F) (V1 m c main_arg1))

/-! ## What a certificate says of the scratch buffers -/

/-- An invariant of the scratch buffers: true at the start, kept by the body's run, and at the last point giving
    `GP` of the positives' buffer and `GN` of the negatives'. -/
structure Steps (Inv : (c : Dev nD) → ℕ → Bf (F := F) c s0 → Bf (F := F) c s1 → Bf (F := F) c s2 → Bf (F := F) c s3 → Prop)
    (GP GN : (S8x128.Idx → Elt F .i32) → Prop) : Prop where
  init : ∀ c g0 g1 g2 g3, Inv c 0 g0 g1 g2 g3
  step : ∀ (c : Dev nD) (t : Fin (cfg m hok).N)
    (M2 : Memref sig .tc .vmem S1x1x64 .f32) (h2 : M2.IsWhole) (M3 : Memref sig .tc .vmem S8192x64 .f32) (h3 : M3.IsWhole)
    (M4 : Memref sig .tc .vmem S8x128 .i32) (h4 : M4.IsWhole) (M5 : Memref sig .tc .vmem S8x128 .i32) (h5 : M5.IsWhole)
    (f2 : Bf (F := F) c M2) (f3 : Bf (F := F) c M3) (f4 : Bf (F := F) c M4) (f5 : Bf (F := F) c M5)
    (g0 : Bf (F := F) c s0) (g1 : Bf (F := F) c s1) (g2 : Bf (F := F) c s2) (g3 : Bf (F := F) c s3) (d0) (d1),
    M2.view.read (Elt F) f2 = stg0 m hok c t d0 → M3.view.read (Elt F) f3 = stg1 m hok c t d1 → Inv c t.val g0 g1 g2 g3 →
    Inv c (t.val + 1) (topRun.sl.Hs0_10 c ((cfg m hok).grid.coords t) M2 M3 f2 f3 g0 |> (View.whole cc0_scratch0).writes (Elt F) (View.whole cc0_scratch0).junk)
      (topRun.sl.Hs1_10 c ((cfg m hok).grid.coords t) M2 M3 f2 f3 g0 g1 |> (View.whole cc0_scratch1).writes (Elt F) (View.whole cc0_scratch1).junk)
      (topRun.sl.Hs2_10 c ((cfg m hok).grid.coords t) M2 M3 f2 f3 g2 |> (View.whole cc0_scratch2).writes (Elt F) (View.whole cc0_scratch2).junk)
      (topRun.sl.Hs3_10 c ((cfg m hok).grid.coords t) M2 M3 f2 f3 g2 g3 |> (View.whole cc0_scratch3).writes (Elt F) (View.whole cc0_scratch3).junk)
    ∧ (t.val = 122 →
      GP (M4.view.read (Elt F) (topRun (U := UU) c ((cfg m hok).grid.coords t) (Memref.whole main_v2) (Memref.isWhole_whole _) M2 h2 M3 h3 M4 h4 M5 h5 f2 f3 f4 f5 g0 g1 g2 g3).1.1.1)
      ∧ GN (M5.view.read (Elt F) (topRun (U := UU) c ((cfg m hok).grid.coords t) (Memref.whole main_v2) (Memref.isWhole_whole _) M2 h2 M3 h3 M4 h4 M5 h5 f2 f3 f4 f5 g0 g1 g2 g3).1.1.2))

variable (Inv : (c : Dev nD) → ℕ → Bf (F := F) c s0 → Bf (F := F) c s1 → Bf (F := F) c s2 → Bf (F := F) c s3 → Prop)
  (GP GN : (S8x128.Idx → Elt F .i32) → Prop)

/-- The scratch buffers at contents of the invariant at `n`. -/
def scr (c : Dev nD) (n : ℕ) : sProp 𝕄 :=
  iprop(∃ g0 g1 g2 g3, ⌜Inv c n g0 g1 g2 g3⌝ ∗ pt c s0 g0 ∗ pt c s1 g1 ∗ pt c s2 g2 ∗ pt c s3 g3)

/-- The table held whole. -/
abbrev tabs (c : Dev nD) : sProp 𝕄 := Pipeline.prefHeld (Ix := Unit) (Name := ℕ) (U := UU) (Lvl := ℕ) pre0 c (fun _ => fullShare) (tbl m)

/-- What the call's body does, point by point. -/
def rd (c : Dev nD) : RDat τ (Elt F) Unit ℕ UU ℕ (cfg m hok) c where
  A w := V1 m c (Pipeline.arrRef spec0 w)
  after w t Y X := match w with
    | ⟨0, _⟩ => X = Y
    | ⟨1, _⟩ => X = Y
    | ⟨2, _⟩ => t.val = 122 → GP X
    | ⟨3, _⟩ => t.val = 122 → GN X
  Φ t := iprop(tabs m c ∗ scr Inv c t.val)
  q _ := fullShare
  owed _ := 0

abbrev rdats : (p : Fin 1) → (c : Dev nD) → RDat τ (Elt F) Unit ℕ UU ℕ (Pipeline.pin (pcfgs (F := F)) (adm m hok) p) c :=
  fun _ c => rd m hok Inv GP GN c

/-- A whole memref owned is its buffer held whole. -/
theorem owns_pt (c : Dev nD) {sp : Space} {S : Shape} {e : EltTy} {M : Memref sig .tc sp S e} (h : M.IsWhole) (X : S.Idx → Elt F e) :
    (owns (c : Thread nD τ) M fullShare X : sProp 𝕄) = iprop(∃ f, ⌜M.view.read (Elt F) f = X⌝ ∗ pt c M f) := by
  unfold owns; rw [h.set_eq_univ]

theorem finds0 (c : Dev nD) (t : Fin (cfg m hok).N) (Y) (h : (rd m hok Inv GP GN c).Finds 0 t Y) : ∃ d, Y = stg0 m hok c t d :=
  (rd m hok Inv GP GN c).finds_in_eq_fetched 0 rfl (fun _ _ _ => rfl) (fun _ _ _ h => h) t Y h

theorem finds1 (c : Dev nD) (t : Fin (cfg m hok).N) (Y) (h : (rd m hok Inv GP GN c).Finds 1 t Y) : ∃ d, Y = stg1 m hok c t d :=
  (rd m hok Inv GP GN c).finds_in_eq_fetched 1 rfl (fun t t' hi => funext fun a =>
    congrArg (fun n => Pipeline.Clip.of n (S8192x64.size a) (S1000000x64.size a)) (congrFun hi a)) (fun _ _ _ h => h) t Y h

set_option backward.isDefEq.respectTransparency.types false in
set_option maxHeartbeats 1000000 in
theorem body_obligation (hS : Steps m hok Inv GP GN) (c : Dev nD) :
    (rd m hok Inv GP GN c).BodyObligation (defs₀ (F := F)) Variants.none () Set.univ := fun t Y hY => by
  obtain ⟨d0, hd0⟩ := finds0 m hok Inv GP GN c t _ (hY (0 : Fin 4))
  obtain ⟨d1, hd1⟩ := finds1 m hok Inv GP GN c t _ (hY (1 : Fin 4))
  have e := fun w X => owns_pt (F := F) c (M := ((cfg m hok).win w).stage ((cfg m hok).slots t w)) ((launch0 (F := F)).stage_whole w _) X
  rw [bigSep_W0, bigSep_W0]
  rw [show (rd m hok Inv GP GN c).Φ t.castSucc = iprop(tabs m c ∗ scr Inv c t.val) from rfl]
  rw [show (rd m hok Inv GP GN c).Φ t.succ = iprop(tabs m c ∗ scr Inv c (t.val + 1)) from rfl,
    show (rd m hok Inv GP GN c).owesAt () t.succ = (rd m hok Inv GP GN c).owesAt () t.castSucc from rfl]
  unfold scr
  iintro ⟨⟨Ht, ⟨%g0, %g1, %g2, %g3, %hI, Hs0, Hs1, Hs2, Hs3⟩⟩, Howes, H2, H3, H4, H5⟩
  ihave H2 := (Entails.of_eq (e (0 : Fin 4) (Y (0 : Fin 4)))) $$ H2
  ihave H3 := (Entails.of_eq (e (1 : Fin 4) (Y (1 : Fin 4)))) $$ H3
  ihave H4 := (Entails.of_eq (e (2 : Fin 4) (Y (2 : Fin 4)))) $$ H4
  ihave H5 := (Entails.of_eq (e (3 : Fin 4) (Y (3 : Fin 4)))) $$ H5
  icases H2 with ⟨%f2, %hf2, H2⟩
  icases H3 with ⟨%f3, %hf3, H3⟩
  icases H4 with ⟨%f4, -, H4⟩
  icases H5 with ⟨%f5, -, H5⟩
  have hs := hS.step c t _ ((launch0 (F := F)).stage_whole 0 _) _ ((launch0 (F := F)).stage_whole 1 _) _ ((launch0 (F := F)).stage_whole 2 _)
    _ ((launch0 (F := F)).stage_whole 3 _) f2 f3 f4 f5 g0 g1 g2 g3 d0 d1 (hf2.trans hd0) (hf3.trans hd1) hI
  iapply ((topRun (U := UU) c ((cfg m hok).grid.coords t) (Memref.whole main_v2) (Memref.isWhole_whole _)
    _ ((launch0 (F := F)).stage_whole 0 _) _ ((launch0 (F := F)).stage_whole 1 _) _ ((launch0 (F := F)).stage_whole 2 _)
    _ ((launch0 (F := F)).stage_whole 3 _) f2 f3 f4 f5 g0 g1 g2 g3).2 Set.univ _)
  isplitl [H2]; · iexact H2
  isplitl [H3]; · iexact H3
  isplitl [H4]; · iexact H4
  isplitl [H5]; · iexact H5
  isplitl [Hs0]; · iexact Hs0
  isplitl [Hs1]; · iexact Hs1
  isplitl [Hs2]; · iexact Hs2
  isplitl [Hs3]; · iexact Hs3
  iintro ⟨H2, H3, H4, H5, Hs0, Hs1, Hs2, Hs3⟩
  isplitl [Ht Hs0 Hs1 Hs2 Hs3]
  · isplitl [Ht]; · iexact Ht
    iexists _, _, _, _
    isplitr; · ipureintro; exact hs.1
    isplitl [Hs0]; · iexact Hs0
    isplitl [Hs1]; · iexact Hs1
    isplitl [Hs2]; · iexact Hs2
    iexact Hs3
  isplitl [Howes]; · iexact Howes
  isplitl [H2]
  · iexists _; isplitr; swap
    · iapply (Entails.of_eq (e (0 : Fin 4) _).symm); iexists _; isplitr; swap; · iexact H2
      ipureintro; rfl
    ipureintro; exact hf2
  isplitl [H3]
  · iexists _; isplitr; swap
    · iapply (Entails.of_eq (e (1 : Fin 4) _).symm); iexists _; isplitr; swap; · iexact H3
      ipureintro; rfl
    ipureintro; exact hf3
  isplitl [H4]
  · iexists _; isplitr; swap
    · iapply (Entails.of_eq (e (2 : Fin 4) _).symm); iexists _; isplitr; swap; · iexact H4
      ipureintro; rfl
    ipureintro; exact fun h => (hs.2 h).1
  · iexists _; isplitr; swap
    · iapply (Entails.of_eq (e (3 : Fin 4) _).symm); iexists _; isplitr; swap; · iexact H5
      ipureintro; rfl
    ipureintro; exact fun h => (hs.2 h).2

end Cert.Proof.Kernel

end
-- ==== Proof.Run0.lean ====
/-
  The launch around the top-k call's region: every execution ends with the arguments as launched, no semaphore
  raised, and the two results cut from contents of which the certificate's invariant holds.
-/
module

public import proofs.«01_k».proof.Proof.Region0

@[expose] public section

noncomputable section

namespace Cert.Proof.Kernel

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window HostSeg)

variable {F : FTy → Type} [FloatOps F]

local notation "𝕄" => MT nD τ sig Unit (Elt F) ℕ UU ℕ

variable (m : (ℓ : Loc nD τ sig) → Buf (Elt F) ℓ) (hok : ok0 (tbl m))
  (Inv : (c : Dev nD) → ℕ → Bf (F := F) c s0 → Bf (F := F) c s1 → Bf (F := F) c s2 → Bf (F := F) c s3 → Prop)
  (GP GN : (S8x128.Idx → Elt F .i32) → Prop)

/-! ## What the results' arrays hold at the end -/

theorem N_cfg : (cfg m hok).N = 123 := N_0

theorem last_lt : 122 < (cfg m hok).N := by rw [N_cfg m hok]; decide

/-- An output window whose one block is the whole array, written back at the last point: the array ends at what
    the last point's body left. -/
theorem arr2 (c : Dev nD) (G : S8x128.Idx → Elt F .i32) (h : (rd m hok Inv GP GN c).ArrAt (2 : Fin 4) (cfg m hok).N G) : GP G := by
  have hf : ((cfg m hok).win (2 : Fin 4)).flush ⟨122, last_lt m hok⟩ = true := by
    show (true && (decide (122 + 1 = grid0.N) || _)) = true
    simp [N_0]
  rw [N_cfg m hok, (rd m hok Inv GP GN c).ArrAt_succ (2 : Fin 4) ⟨122, last_lt m hok⟩, if_pos hf] at h
  obtain ⟨G₀, X, -, ⟨Y, -, hX⟩, rfl⟩ := h
  have hX : GP X := hX rfl
  convert hX using 1
  have hr := View.read_write_univ (Val := Elt F) (v := (((cfg m hok).win (2 : Fin 4)).blk ⟨122, last_lt m hok⟩).view) G₀
    (((cfg m hok).win (2 : Fin 4)).cut ((cfg m hok).grid.coords ⟨122, last_lt m hok⟩) X)
  have he : ∀ j, (((cfg m hok).win (2 : Fin 4)).blk ⟨122, last_lt m hok⟩).view.emb j = j := fun j => funext fun a => Fin.ext (by
    fin_cases a
    · show 0 * 8 + 1 * (j (0 : Fin 2)).val = (j (0 : Fin 2)).val; omega
    · show 0 * 128 + 1 * (j (1 : Fin 2)).val = (j (1 : Fin 2)).val; omega)
  funext j
  have hj := congrFun hr j
  rw [View.read_apply, he] at hj
  exact hj

theorem arr3 (c : Dev nD) (G : S8x128.Idx → Elt F .i32) (h : (rd m hok Inv GP GN c).ArrAt (3 : Fin 4) (cfg m hok).N G) : GN G := by
  have hf : ((cfg m hok).win (3 : Fin 4)).flush ⟨122, last_lt m hok⟩ = true := by
    show (true && (decide (122 + 1 = grid0.N) || _)) = true
    simp [N_0]
  rw [N_cfg m hok, (rd m hok Inv GP GN c).ArrAt_succ (3 : Fin 4) ⟨122, last_lt m hok⟩, if_pos hf] at h
  obtain ⟨G₀, X, -, ⟨Y, -, hX⟩, rfl⟩ := h
  have hX : GN X := hX rfl
  convert hX using 1
  have hr := View.read_write_univ (Val := Elt F) (v := (((cfg m hok).win (3 : Fin 4)).blk ⟨122, last_lt m hok⟩).view) G₀
    (((cfg m hok).win (3 : Fin 4)).cut ((cfg m hok).grid.coords ⟨122, last_lt m hok⟩) X)
  have he : ∀ j, (((cfg m hok).win (3 : Fin 4)).blk ⟨122, last_lt m hok⟩).view.emb j = j := fun j => funext fun a => Fin.ext (by
    fin_cases a
    · show 0 * 8 + 1 * (j (0 : Fin 2)).val = (j (0 : Fin 2)).val; omega
    · show 0 * 128 + 1 * (j (1 : Fin 2)).val = (j (1 : Fin 2)).val; omega)
  funext j
  have hj := congrFun hr j
  rw [View.read_apply, he] at hj
  exact hj

/-! ## The segments -/

abbrev L : GSem nD τ sig → Finset Unit := fun _ => ∅
abbrev lv : GSem nD τ sig → Unit → ℕ := fun _ _ => 0

/-- What rides along: the core owing nothing. -/
abbrev R (c : Dev nD) : sProp 𝕄 := iprop(∃ W, owes (c : Thread nD τ) (0 : CellTallies nD τ sig Unit) W)

/-- Contents of the two results the call may leave. -/
abbrev Γ (c : Dev nD) : Type := { o : Out2 (F := F) c // GP o.1 ∧ GN o.2 }

def segH0 : HostSeg (Ix := Unit) (Name := ℕ) (U := UU) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp ops0_fresh) op h) (V0 m) R

def segH1 : HostSeg (Ix := Unit) (Name := ℕ) (U := UU) (Lvl := ℕ) (pcfgs (F := F)) defs₀ Variants.none L lv :=
  HostSeg.ofOpsEx (Γ := Γ (F := F) GP GN) _ _ _ _ _ (Pipeline.ucRefs τ sig) hostOps1
    (fun op h => Pipeline.sub_ucRefs op ((List.forall_iff_forall_mem.mp hostOps1_sub) op h))
    (fun op h => (List.forall_iff_forall_mem.mp ops1_fresh) op h) (fun c γ => V2 m c γ.1) R

include hok in
/-- The buffers after the call, the windows' arrays and the rest apart. -/
theorem held_V2 (c : Dev nD) (o : Out2 (F := F) c) :
    (StableHlo.held (c : Thread nD τ) (Pipeline.ucRefs τ sig) (V2 m c o) : sProp 𝕄)
      = iprop(((((c : Thread nD τ).loc main_v3) ↦{fullShare} V1 m c main_v3) ∗ (((c : Thread nD τ).loc main_arg1) ↦{fullShare} V1 m c main_arg1)
          ∗ (((c : Thread nD τ).loc main_v4_0) ↦{fullShare} o.1) ∗ (((c : Thread nD τ).loc main_v4_1) ↦{fullShare} o.2))
        ∗ Pipeline.unscopedRest (Ix := Unit) (Name := ℕ) (U := UU) (Lvl := ℕ) spec0 c (fun b => V1 m c b)) := by
  have hs := Pipeline.unscopedBufs_split (Ix := Unit) (Name := ℕ) (U := UU) (Lvl := ℕ) (Val := Elt F) (Pipeline.pin (pcfgs (F := F)) (adm m hok)) 0
    winFacts0.arr_unscoped winFacts0.arr_inj c (fun b => V2 m c o b)
  rw [← Pipeline.unscopedBufs_held, hs, bigSep_W0]
  congr 1

set_option backward.isDefEq.respectTransparency.types false in
/-- The call's region, between the host lines. -/
def reg (hS : Steps m hok Inv GP GN) :
    RDat.RegionSeg (pcfgs (F := F)) (adm m hok) (rdats m hok Inv GP GN) () defs₀ Variants.none L lv 0 where
  win := (launch0 (F := F)).win.to₀
  block_pos := (launch0 (F := F)).block_pos
  stage_whole := (launch0 (F := F)).stage_whole
  K := PEmpty
  osem k := k.elim
  ho := Pipeline.OwnSemFacts.none _
  hbody c := body_obligation m hok Inv GP GN hS c
  hwaits := RDat.hwaits_of_owed_zero _ _ _ _ L lv 0 fun _ _ => rfl
  pre c := iprop(StableHlo.held (c : Thread nD τ) (Pipeline.ucRefs τ sig) (V1 m c) ∗ R c)
  post c := iprop((∃ γ : Γ (F := F) GP GN c, StableHlo.held (c : Thread nD τ) (Pipeline.ucRefs τ sig) (V2 m c γ.1)) ∗ R c)
  X _ := BI.emp
  Y c := tabs m c
  Z c := Pipeline.unscopedRestP (Ix := Unit) (Name := ℕ) (U := UU) (Lvl := ℕ) pre0 spec0 c (fun b => V1 m c b)
  hentry c := by
    obtain rfl := eq_c₀ c
    rw [Pipeline.ownSems0_none, ← Pipeline.unscopedBufs_held]
    have hsplit := RDat.arrays_of_unscopedBufs (p := 0) (pcfgs (F := F)) (adm m hok) (rdats m hok Inv GP GN) (launch0 (F := F)).win (launch0 (F := F)).arr_whole c₀
      ((rdats m hok Inv GP GN 0 c₀).share_full fun _ => rfl) (fun b => V1 m c₀ b) fun _ => rfl
    have hsp2 := Pipeline.unscopedRest_split (Ix := Unit) (Name := ℕ) (U := UU) (Lvl := ℕ) preFacts0 c₀ (fun b => V1 m c₀ b)
    iintro ⟨⟨Hub, HO⟩, -, -⟩
    ihave H := hsplit $$ Hub
    icases H with ⟨Ha, Hrest⟩
    ihave H := (Entails.of_eq hsp2) $$ Hrest
    icases H with ⟨Hp, Hr⟩
    imodintro
    isplitl [Ha]; · iexact Ha
    isplitl [Hp]; · iexact Hp
    isplitl [HO]
    · unfold Pipeline.RDat.owesAt Pipeline.owesWithin
      icases HO with ⟨%W, HO⟩; iexists W; isplitr; · ipureintro; exact fun _ _ => Or.inl trivial
      iexact HO
    isplitr; · iempintro
    iexact Hr
  hin c := by
    rw [show (rdats m hok Inv GP GN 0 c).Φ 0 = iprop(tabs m c ∗ scr Inv c 0) from rfl]
    iintro ⟨-, Ht, Hr⟩
    isplitl [Ht]; · iexact Ht
    ihave H := (Entails.of_eq (scopedRest0_eq (Ix := Unit) (Name := ℕ) (U := UU) (Lvl := ℕ) (Val := Elt F) c)) $$ Hr
    icases H with ⟨⟨%g0, H0⟩, ⟨%g1, H1⟩, ⟨%g2, H2⟩, ⟨%g3, H3⟩⟩
    unfold scr
    iexists g0, g1, g2, g3
    isplitr; · ipureintro; exact hS.init c g0 g1 g2 g3
    isplitl [H0]; · iexact H0
    isplitl [H1]; · iexact H1
    isplitl [H2]; · iexact H2
    iexact H3
  hout c := by
    rw [Pipeline.ownSems0_none, show (rdats m hok Inv GP GN 0 c).Φ (Fin.last _) = iprop(tabs m c ∗ scr Inv c (cfg m hok).N) from rfl]
    unfold scr
    iintro ⟨Ht, ⟨%g0, %g1, %g2, %g3, -, H0, H1, H2, H3⟩⟩
    isplitl [Ht]; · iexact Ht
    isplitr; · iempintro
    iapply (Entails.of_eq (scopedRest0_eq (Ix := Unit) (Name := ℕ) (U := UU) (Lvl := ℕ) (Val := Elt F) c).symm)
    isplitl [H0]; · iexists g0; iexact H0
    isplitl [H1]; · iexists g1; iexact H1
    isplitl [H2]; · iexists g2; iexact H2
    iexists g3; iexact H3
  hexit c := by
    obtain rfl := eq_c₀ c
    have ha := RDat.arraysAt_eq (pcfgs (F := F)) (adm m hok) (rdats m hok Inv GP GN) 0 c₀ (launch0 (F := F)).arr_whole
      ((rdats m hok Inv GP GN 0 c₀).share_full fun _ => rfl) (cfg m hok).N
    have hsp2 := Pipeline.unscopedRest_split (Ix := Unit) (Name := ℕ) (U := UU) (Lvl := ℕ) preFacts0 c₀ (fun b => V1 m c₀ b)
    rw [bigSep_W0] at ha
    iintro ⟨Ha, HO, Ht, Hr⟩
    imodintro
    isplitr [HO]
    · ihave Ha := (Entails.of_eq ha) $$ Ha
      icases Ha with ⟨⟨%A0, %h0, H0⟩, ⟨%A1, %h1, H1⟩, ⟨%A2, %h2, H2⟩, ⟨%A3, %h3, H3⟩⟩
      rw [(rd m hok Inv GP GN c₀).ArrAt_in (0 : Fin 4) rfl] at h0
      rw [(rd m hok Inv GP GN c₀).ArrAt_in (1 : Fin 4) rfl] at h1
      subst h0 h1
      iexists ⟨(A2, A3), arr2 m hok Inv GP GN c₀ A2 h2, arr3 m hok Inv GP GN c₀ A3 h3⟩
      iapply (Entails.of_eq (held_V2 m hok c₀ _).symm)
      isplitl [H0 H1 H2 H3]
      · isplitl [H0]; · iexact H0
        isplitl [H1]; · iexact H1
        isplitl [H2]; · iexact H2
        iexact H3
      iapply (Entails.of_eq hsp2.symm)
      isplitl [Ht]; · iexact Ht
      iexact Hr
    unfold Pipeline.RDat.owesAt Pipeline.owesWithin
    icases HO with ⟨%W, -, HO⟩; iexists W; iexact HO

/-! ## The launch -/

/-- The TensorCore has no unscoped semaphore. -/
theorem no_unscoped : ∀ sm : SemLoc sig, sm.isScoped .tc = true := by decide

/-- @main's three items. -/
abbrev segs (hS : Steps m hok Inv GP GN) :
    List (RDat.Seg (pcfgs (F := F)) (adm m hok) (rdats m hok Inv GP GN) () defs₀ Variants.none L lv) :=
  [.host (segH0 m), .region (reg m hok Inv GP GN hS), .host (segH1 m GP GN)]

theorem mem_uc (r : Ref sig .tc) (h : ¬ r.isScoped) : (Proc.devRef (τ := τ) .tc r) ∈ Pipeline.ucRefs τ sig :=
  Finset.mem_filter.mpr ⟨StableHlo.devRef_mem_tcRefs r, h⟩

set_option backward.isDefEq.respectTransparency.types false in
/-- Every execution of the program ends, its arguments as launched and no semaphore raised, its results what the
    host lines cut from contents satisfying `GP` and `GN`. -/
theorem run (hS : Steps m hok Inv GP GN) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ ∃ γ : Γ (F := F) GP GN c, r.2.mem ((c.tc : Thread nD τ).loc main_v6) = StableHlo.after hostOps1 (V2 m c γ.1) main_v6
        ∧ r.2.mem ((c.tc : Thread nD τ).loc main_v8) = StableHlo.after hostOps1 (V2 m c γ.1) main_v8)
      ∧ r.2.sem = fun _ => 0) := by
  refine RDat.θ_run_regions_kit_sems (pcfgs (F := F)) (adm m hok) (rdats m hok Inv GP GN) () (cellOf_inj (adm m hok))
    (emb₁ (nD := nD) (τ := τ) (sig := sig) (Ix := Unit) (Val := Elt F) (Name := ℕ) (Lvl := ℕ) (A := UU)) defs₀ Variants.none L lv m ρ main
    (segs m hok Inv GP GN hS)
    (fun c Q => by
      rewrite [main_chain c, RDat.Seg.run_eq_chain,
        show (segs m hok Inv GP GN hS).map RDat.Seg.prog = [
          StableHlo.seq hostOps0,
          Prog.lift (.customCall (Pipeline.entry 0) ()),
          StableHlo.seq hostOps1 ] from rfl]
      dsimp (config := { failIfUnchanged := false }) only
      exact .rfl)
    (by simp only [segs, RDat.Seg.pipes_host, RDat.Seg.pipes_region, RDat.Seg.pipes_nil]; decide)
    (fun _ => 0) (fun _ _ => rfl) (fun _ => BI.emp)
    (initOf (Pipeline.cells (Pipeline.pin (pcfgs (F := F)) (adm m hok)) (cellOf_inj (adm m hok))) (Pipeline.launchToks (Pipeline.pin (pcfgs (F := F)) (adm m hok)) (cellOf_inj (adm m hok))))
    (by
      iintro Hu; imodintro
      isplitl [Hu]
      · iapply (show (ownU _ : sProp 𝕄) ⊢ BI.own (emb₁ (initOf (Pipeline.cells (Pipeline.pin (pcfgs (F := F)) (adm m hok)) (cellOf_inj (adm m hok))) (Pipeline.launchToks (Pipeline.pin (pcfgs (F := F)) (adm m hok)) (cellOf_inj (adm m hok))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(∃ γ : Γ (F := F) GP GN c, StableHlo.held (c : Thread nD τ) (Pipeline.ucRefs τ sig) (StableHlo.after hostOps1 (V2 m c γ.1))))
    (hch := ⟨fun _ => .rfl, fun _ => .rfl, fun _ => .rfl, fun _ => .rfl⟩)
    (hinit := ?_)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ ∃ γ : Γ (F := F) GP GN c, s.mem ((c.tc : Thread nD τ).loc main_v6) = StableHlo.after hostOps1 (V2 m c γ.1) main_v6
        ∧ s.mem ((c.tc : Thread nD τ).loc main_v8) = StableHlo.after hostOps1 (V2 m c γ.1) main_v8)
    (hfin := fun c s' => ?_) (hQ := fun _ h hz => ⟨h, funext fun g => hz g (.inr (no_unscoped g.2))⟩)
  · have hone : ∀ c : Dev nD, iprop(unscopedBufs c (fun b => m ((c.tc : Thread nD τ).loc b)) ∗ unscopedSems0 c
          ∗ owes (c.tc : Thread nD τ) 0 ∅ ∗ Pipeline.launchCred (fun _ => 0) c ∗ prngReg c (ρ c) ∗ BI.emp)
        ⊢ (iprop(StableHlo.held (c : Thread nD τ) (Pipeline.ucRefs τ sig) (V0 m c) ∗ R c) : sProp 𝕄) := fun c => by
      rw [← Pipeline.unscopedBufs_held (Ix := Unit) (Name := ℕ) (U := UU) (Lvl := ℕ) c (V0 m c)]
      iintro ⟨Hh, -, HO, -⟩
      isplitl [Hh]; · iexact Hh
      iexists _; iexact HO
    iintro ⟨H, -⟩
    imodintro
    iapply (show (bigSep Finset.univ (fun c : Dev nD => iprop(unscopedBufs c (fun b => m ((c.tc : Thread nD τ).loc b)) ∗ unscopedSems0 c
          ∗ owes (c.tc : Thread nD τ) 0 ∅ ∗ Pipeline.launchCred (fun _ => 0) c ∗ prngReg c (ρ c) ∗ BI.emp)) : sProp 𝕄)
        ⊢ bigSep Finset.univ (fun c : Dev nD => iprop(StableHlo.held (c : Thread nD τ) (Pipeline.ucRefs τ sig) (V0 m c) ∗ R c)) from
      bigSep_mono fun c _ => hone c)
    iexact H
  · unfold StableHlo.held
    iintro ⟨⟨%γ, Hh⟩, HSI⟩
    ihave Hr := (pointsTo_read_all (Pipeline.ucRefs τ sig) (fun b => ((c : Thread nD τ).1, b)) (StableHlo.after hostOps1 (V2 m c γ.1)) s') $$ [Hh HSI]
    · isplitl [Hh] <;> iassumption
    icases Hr with ⟨%h, HSI⟩
    imodintro
    isplitr
    · ipureintro
      exact ⟨(h _ (mem_uc main_arg0 (by decide))).trans (V3_arg m c _ main_arg0 (by decide) (by decide) (by decide) (by decide)),
        (h _ (mem_uc main_arg1 (by decide))).trans (V3_arg m c _ main_arg1 (by decide) (by decide) (by decide) (by decide)),
        γ, h _ (mem_uc main_v6 (by decide)), h _ (mem_uc main_v8 (by decide))⟩
    · iexact HSI

end Cert.Proof.Kernel

end
-- ==== Proof.Table.lean ====
/-
  The prefetched table: the anchor id of the program's arguments, in range under the precondition.
-/
module

public import proofs.«01_k».proof.Proof.Run0
public import proofs.«01_k».proof.Proof.Gen.Pre_anchor_in_table
public import proofs.«01_k».proof.Proof.Gen.Pre_scores_apart

@[expose] public section

noncomputable section

namespace Cert.Proof.Kernel

open Cert.Kernel Cert.Kernel.Gen

open Idealize.ShloMosaic
open Idealize.ShloMosaic.TcCoe

variable {F : FTy → Type} [FloatOps F]
variable (m : (ℓ : Loc nD τ sig) → Buf (Elt F) ℓ)

/-- The anchor id: the first word of the last row of the program's first argument. -/
def anchor (x : IVec S1024x3 32) : BitVec 32 :=
  shapeCast S_ (extractStridedSlice S1x1 ![1023, 0] x slices_S1024x3_S1x1_1023_0) shapeCasts_S1x1_S_ (fun a => a.elim0)

theorem tbl_eq : (tbl m) 0 = fun _ => anchor (m ((c₀ : Thread nD τ).loc main_arg0)) := by
  have h : V1 m c₀ main_v2 = shapeCast S1 (shapeCast S_ (extractStridedSlice S1x1 ![1023, 0] (m ((c₀ : Thread nD τ).loc main_arg0)) slices_S1024x3_S1x1_1023_0) shapeCasts_S1x1_S_) shapeCasts_S_S1 := rfl
  refine h.trans (funext fun j => ?_)
  unfold anchor
  rw [shapeCast]
  congr 1

/-- An anchor id in range makes the table admissible. -/
theorem ok_of_lt (h : (anchor (m ((c₀ : Thread nD τ).loc main_arg0))).toNat < 1000000) : ok0 (tbl m) := fun i => by
  refine ⟨fun a => ?_, .inl rfl⟩
  have e : cc0_transform_0 inb_S1_S1_0 numel1_S1 (tbl m) i = ![(anchor (m ((c₀ : Thread nD τ).loc main_arg0))).toNat, 0, 0] := by
    have := congrFun (tbl_eq m) ((Rect.unit (s := S1) ![0] S1.size inb_S1_S1_0).emb (Shape.Idx.first (numel1_S1.symm ▸ Nat.one_pos)))
    exact congrArg (fun v : BitVec 32 => ![v.toNat, 0, 0]) this
  rw [e]
  fin_cases a
  · show ((anchor (m ((c₀ : Thread nD τ).loc main_arg0))).toNat + 1) * 1 ≤ 1000000; omega
  · show (0 + 1) * 1 ≤ 1; decide
  · show (0 + 1) * 64 ≤ 64; decide

/-- The range test of the preconditions, as a number below the table's length. -/
theorem lt_of_tests (a : BitVec 32) (h0 : IntOp.cmpi .sge a 0#32 = 1#1) (h1 : IntOp.cmpi .slt a 1000000#32 = 1#1) : a.toNat < 1000000 := by
  have h0 : (0#32).sle a = true := by
    rcases h : (0#32).sle a with _ | _
    · simp [IntOp.cmpi, h] at h0
    · rfl
  have h1 : a.slt 1000000#32 = true := by
    rcases h : a.slt 1000000#32 with _ | _
    · simp [IntOp.cmpi, h] at h1
    · rfl
  rw [BitVec.sle_iff_toInt_le] at h0
  rw [BitVec.slt_iff_toInt_lt] at h1
  rw [show (0#32).toInt = 0 from rfl] at h0
  rw [show (1000000#32).toInt = 1000000 from rfl] at h1
  have := BitVec.toInt_eq_toNat_cond a
  split at this <;> omega

/-- Two one-bit tests both true. -/
theorem both (a b : BitVec 1) (h : IntOp.andi a b = 1#1) : a = 1#1 ∧ b = 1#1 := by
  revert a b; decide

theorem lt_of_pre (x : IVec S1024x3 32) (y : FVec F S1000000x64 .f32)
    (h : Cert.Pre_anchor_in_table.fn x y = fun _ => 1#1) : (anchor x).toNat < 1000000 := by
  have h := congrFun h (fun a => a.elim0)
  unfold Cert.Pre_anchor_in_table.fn at h
  have h : IntOp.andi (IntOp.cmpi .sge (anchor x) 0#32) (IntOp.cmpi .slt (anchor x) 1000000#32) = 1#1 := h
  obtain ⟨h0, h1⟩ := both _ _ h
  exact lt_of_tests _ h0 h1

theorem lt_of_pre_apart (x : IVec S1024x3 32) (y : FVec F S1000000x64 .f32)
    (h : Cert.Pre_scores_apart.fn x y = fun _ => 1#1) : (anchor x).toNat < 1000000 := by
  have h := congrFun h (fun a => a.elim0)
  unfold Cert.Pre_scores_apart.fn Cert.Pre_scores_apart.fn_part1 at h
  have h : IntOp.andi (IntOp.andi (IntOp.andi (IntOp.cmpi .sge (anchor x) 0#32) (IntOp.cmpi .slt (anchor x) 1000000#32)) _) _ = 1#1 := h
  obtain ⟨h, -⟩ := both _ _ h
  obtain ⟨h, -⟩ := both _ _ h
  obtain ⟨h0, h1⟩ := both _ _ h
  exact lt_of_tests _ h0 h1

end Cert.Proof.Kernel

end
-- ==== Proof.Same.lean ====
/-
  The idealized program runs the same text as the printed one: its body, its body table and its @main are the
  printed program's, so a run of the printed program at any float interpretation is a run of the idealized one.
-/
module

public import proofs.«01_k».proof.Proof.Gen.Kernel
public import proofs.«01_k».proof.Proof.Gen.KernelIdeal

@[expose] public section
namespace Cert.Proof
open Idealize.ShloMosaic

theorem sig_eq : Cert.KernelIdeal.sig = Cert.Kernel.sig := by rfl
variable {F : FTy → Type} [FloatOps F]
set_option maxHeartbeats 2000000

theorem body_eq i a1 h1 a2 h2 a3 h3 a4 h4 a5 h5 a6 h6 a7 h7 a8 h8 a9 h9 : Cert.KernelIdeal.cc0__topk_body (F := F) i a1 h1 a2 h2 a3 h3 a4 h4 a5 h5 a6 h6 a7 h7 a8 h8 a9 h9 = Cert.Kernel.cc0__topk_body (F := F) i a1 h1 a2 h2 a3 h3 a4 h4 a5 h5 a6 h6 a7 h7 a8 h8 a9 h9 := by with_unfolding_all rfl

theorem defs₀_eq : Cert.KernelIdeal.defs₀ (F := F) = Cert.Kernel.defs₀ (F := F) := by
  unfold Cert.KernelIdeal.defs₀ Cert.Kernel.defs₀
  refine congrArg (Defs.onTc (nD := Cert.Kernel.nD) (τ := Cert.Kernel.τ) (sig := Cert.Kernel.sig) (Val := Elt F) (Λ := Cert.Kernel.Λ₀)) (funext fun l => funext fun p => ?_)
  match l, p with
  | 0, (t, s) => exact body_eq ..
theorem defs_eq : Cert.KernelIdeal.defs (F := F) = Cert.Kernel.defs (F := F) := by
  unfold Cert.KernelIdeal.defs Cert.Kernel.defs
  rw [defs₀_eq]
  rfl
theorem main_eq : Cert.KernelIdeal.main (F := F) = Cert.Kernel.main (F := F) := by rfl
end Cert.Proof
-- ==== Proof.Frames.lean ====
/-
  The frames: the top-k call's launch at an invariant that says nothing, and the reference's run.
-/
module

public import proofs.«01_k».proof.Defs
public import proofs.«01_k».proof.Proof.Table
public import proofs.«01_k».proof.Proof.Same
public import proofs.«01_k».proof.Proof.Gen.ReferenceIdeal.Run

@[expose] public section

noncomputable section

namespace Cert.Proof

open Idealize.ShloMosaic Idealize.ShloMosaic.TcCoe Idealize.SL.Sem Cert.Kernel Cert.Proof.Kernel

/-- The kernel's run, of its arguments and semaphores only. -/
theorem kernel_frame {F : FTy → Type} [FloatOps F] (m : (ℓ : Loc nD τ sig) → Buf (Elt F) ℓ) (ρ : Dev nD → PrngReg)
    (h : (anchor (m ((c₀ : Thread nD τ).loc main_arg0))).toNat < 1000000) :
    θ_run (Cert.Kernel.defs (F := F)) (onTc (τ := τ) (Cert.Kernel.main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run _ _ _).mono (fun _ h => ⟨fun c => ⟨(h.1 c).1, (h.1 c).2.1⟩, h.2⟩)
    (run m (ok_of_lt m h) (fun _ _ _ _ _ _ => True) (fun _ => True) (fun _ => True)
      ⟨fun _ _ _ _ _ => trivial, fun _ _ _ _ _ _ _ _ _ _ _ _ _ _ _ _ _ _ _ _ _ _ _ => ⟨trivial, fun _ => ⟨trivial, trivial⟩⟩⟩ ρ)

theorem frame_kernel : Cert.quiescent_Kernel := fun m ρ hm => kernel_frame m ρ (lt_of_pre _ _ (hm c₀))

theorem frame_ideal : Cert.quiescent_KernelIdeal := fun m ρ hm => by
  rw [defs_eq, main_eq]
  exact kernel_frame m ρ (lt_of_pre _ _ (hm c₀))

theorem frame_ideal_apart : Cert.quiescent_KernelIdeal_pre_scores_apart := fun m ρ hm => by
  rw [defs_eq, main_eq]
  exact kernel_frame m ρ (lt_of_pre_apart _ _ (hm c₀))

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_reference_apart : Cert.quiescent_ReferenceIdeal_pre_scores_apart := fun m ρ _ => frame_reference m ρ trivial

end Cert.Proof

end
-- ==== Proof.TopVal.lean ====
module

public import proofs.«01_k».proof.Proof.TopRun
public import Idealize.ShloMosaic.Lib.ValueLayout

@[expose] public section

noncomputable section

namespace Cert.Proof.Kernel

open Cert.Kernel Cert.Kernel.Gen

open Idealize.ShloMosaic Idealize.ShloMosaic.ValueIdx
open Idealize.ShloMosaic.TcCoe Idealize.ShloMosaic.Tactic

variable {F : FTy → Type} [FloatOps F]

/-! ## The tiles of a block and the rows of a list -/

/-- Tile `k` of a block's 64 × 128 values. -/
def tile {α : Type} (k : ℕ) (v : S1x64x128.Idx → α) : S8x128.Idx → α :=
  fun x => v (ix3 (0 : Fin 1) (⟨(8 * k + (x 0).val) % 64, Nat.mod_lt _ (by decide)⟩ : Fin 64) (x 1))

/-- Row `j` of the ten rows kept per slot. -/
def rowAt {α : Type} (G : S10x8x128.Idx → α) (j : ℕ) : S8x128.Idx → α :=
  fun x => G (ix3 (⟨j % 10, Nat.mod_lt _ (by decide)⟩ : Fin 10) (x 0) (x 1))

theorem tile_cast {α : Type} (o k : ℕ) (hk : k < 8) (ho : o = 8 * k) (v : S1x64x128.Idx → α) (h : S1x64x128.Slices ![0, o, 0] S1x8x128)
    (hc : S1x8x128.ShapeCasts S8x128) :
    shapeCast S8x128 (extractStridedSlice S1x8x128 ![0, o, 0] v h) hc = tile k v := by
  subst ho
  funext x
  obtain ⟨a, b, rfl⟩ : ∃ (a : Fin 8) (b : Fin 128), x = ix2 a b := ⟨x 0, x 1, eq_ix2 x⟩
  refine (shapeCast_1ab_ab_apply _ hc a b).trans ?_
  refine extractStridedSlice_apply _ v h _ _ (fun d => ?_)
  match d with
  | ⟨0, _⟩ => rfl
  | ⟨1, _⟩ => exact Nat.mod_eq_of_lt (by have := a.isLt; show 8 * k + a.val < 64; omega)
  | ⟨2, _⟩ => exact (Nat.zero_add _).symm

theorem row_cast {sp : Space} {e : EltTy} (v : View sig .tc sp S10x8x128 e) (f : v.ty.Contents (Elt F)) (j : ℕ)
    (h : ∀ a, (![j, 0, 0] : Fin 3 → ℕ) a + (![1, 8, 128] : Fin 3 → ℕ) a ≤ S10x8x128.size a) (hc : S1x8x128.ShapeCasts S8x128) :
    shapeCast S8x128 (v.readAt (Elt F) (Rect.unit (s := S10x8x128) ![j, 0, 0] ![1, 8, 128] h).toLoadRect f) hc = rowAt (v.read (Elt F) f) j := by
  funext x
  obtain ⟨a, b, rfl⟩ : ∃ (a : Fin 8) (b : Fin 128), x = ix2 a b := ⟨x 0, x 1, eq_ix2 x⟩
  refine (shapeCast_1ab_ab_apply _ hc a b).trans ?_
  refine congrArg (v.read (Elt F) f) (funext fun d => Fin.ext ?_)
  have hj : j < 10 := by have := h 0; change j + 1 ≤ 10 at this; omega
  match d with
  | ⟨0, _⟩ => show j + 1 * 0 = j % 10; rw [Nat.mod_eq_of_lt hj]; omega
  | ⟨1, _⟩ => show 0 + 1 * a.val = a.val; omega
  | ⟨2, _⟩ => show 0 + 1 * b.val = b.val; omega

/-! ## One tile carried down the ten rows, and eight tiles one after the other -/

/-- The values carried past rows `0 … j-1`. -/
def carV (p : CmpFPredicate) (t : FVec F S8x128 .f32) (r : ℕ → FVec F S8x128 .f32) : ℕ → FVec F S8x128 .f32
  | 0 => t
  | j + 1 => select (cmpf p (carV p t r j) (r j)) (r j) (carV p t r j)

/-- The ids carried past rows `0 … j-1`. -/
def carI (p : CmpFPredicate) (t : FVec F S8x128 .f32) (r : ℕ → FVec F S8x128 .f32) (ti : IVec S8x128 32) (ri : ℕ → IVec S8x128 32) :
    ℕ → IVec S8x128 32
  | 0 => ti
  | j + 1 => select (cmpf p (carV p t r j) (r j)) (ri j) (carI p t r ti ri j)

/-- The rows of values after `k` tiles of `V`. -/
def RV (p : CmpFPredicate) (V : FVec F S1x64x128 .f32) (r : ℕ → FVec F S8x128 .f32) : ℕ → ℕ → FVec F S8x128 .f32
  | 0 => r
  | k + 1 => fun j => select (cmpf p (carV p (tile k V) (RV p V r k) j) (RV p V r k j)) (carV p (tile k V) (RV p V r k) j) (RV p V r k j)

def CV (p : CmpFPredicate) (V : FVec F S1x64x128 .f32) (r : ℕ → FVec F S8x128 .f32) (k j : ℕ) : FVec F S8x128 .f32 :=
  carV p (tile k V) (RV p V r k) j

def MK (p : CmpFPredicate) (V : FVec F S1x64x128 .f32) (r : ℕ → FVec F S8x128 .f32) (k j : ℕ) : IVec S8x128 1 :=
  cmpf p (CV p V r k j) (RV p V r k j)

/-- The rows of ids after `k` tiles of `V` with the ids `W`. -/
def RI (p : CmpFPredicate) (V : FVec F S1x64x128 .f32) (W : IVec S1x64x128 32) (r : ℕ → FVec F S8x128 .f32) (ri : ℕ → IVec S8x128 32) :
    ℕ → ℕ → IVec S8x128 32
  | 0 => ri
  | k + 1 => fun j => select (MK p V r k j) (carI p (tile k V) (RV p V r k) (tile k W) (RI p V W r ri k) j) (RI p V W r ri k j)

def CI (p : CmpFPredicate) (V : FVec F S1x64x128 .f32) (W : IVec S1x64x128 32) (r : ℕ → FVec F S8x128 .f32) (ri : ℕ → IVec S8x128 32)
    (k j : ℕ) : IVec S8x128 32 :=
  carI p (tile k V) (RV p V r k) (tile k W) (RI p V W r ri k) j

section Folds

variable (p : CmpFPredicate) (V : FVec F S1x64x128 .f32) (W : IVec S1x64x128 32) (r : ℕ → FVec F S8x128 .f32) (ri : ℕ → IVec S8x128 32)
  (k j : ℕ)

theorem fold_MK : cmpf p (CV p V r k j) (RV p V r k j) = MK p V r k j := rfl
theorem fold_RV : select (MK p V r k j) (CV p V r k j) (RV p V r k j) = RV p V r (k + 1) j := rfl
theorem fold_CV : select (MK p V r k j) (RV p V r k j) (CV p V r k j) = CV p V r k (j + 1) := rfl
theorem fold_RI : select (MK p V r k j) (CI p V W r ri k j) (RI p V W r ri k j) = RI p V W r ri (k + 1) j := rfl
theorem fold_CI : select (MK p V r k j) (RI p V W r ri k j) (CI p V W r ri k j) = CI p V W r ri k (j + 1) := rfl
theorem fold_RI0 : select (MK p V r k 0) (tile k W) (RI p V W r ri k 0) = RI p V W r ri (k + 1) 0 := rfl
theorem fold_CI0 : select (MK p V r k 0) (RI p V W r ri k 0) (tile k W) = CI p V W r ri k 1 := rfl
theorem fold_C0 : tile k V = CV p V r k 0 := rfl
theorem fold_R0 (G : S10x8x128.Idx → F .f32) : rowAt G j = RV p V (rowAt G) 0 j := rfl
theorem fold_I0 (G : S10x8x128.Idx → BitVec 32) : rowAt G j = RI p V W r (rowAt G) 0 j := rfl

end Folds

/-- One row written back into a list. -/
def piece {e : EltTy} (j : ℕ) (h : ∀ a, (![j, 0, 0] : Fin 3 → ℕ) a + S1x8x128.size a ≤ S10x8x128.size a) (x : S8x128.Idx → Elt F e) :
    View.Piece (Elt F) S10x8x128 e :=
  ⟨Rect.unit ![j, 0, 0] S1x8x128.size h, shapeCast S1x8x128 x shapeCasts_S8x128_S1x8x128⟩

/-- The ten rows written back, the last one first. -/
def lst {e : EltTy} (R : ℕ → S8x128.Idx → Elt F e) : List (View.Piece (Elt F) S10x8x128 e) :=
  [piece 9 inb_S10x8x128_S1x8x128_9_0_0 (R 9),
    piece 8 inb_S10x8x128_S1x8x128_8_0_0 (R 8),
    piece 7 inb_S10x8x128_S1x8x128_7_0_0 (R 7),
    piece 6 inb_S10x8x128_S1x8x128_6_0_0 (R 6),
    piece 5 inb_S10x8x128_S1x8x128_5_0_0 (R 5),
    piece 4 inb_S10x8x128_S1x8x128_4_0_0 (R 4),
    piece 3 inb_S10x8x128_S1x8x128_3_0_0 (R 3),
    piece 2 inb_S10x8x128_S1x8x128_2_0_0 (R 2),
    piece 1 inb_S10x8x128_S1x8x128_1_0_0 (R 1),
    piece 0 inb_S10x8x128_S1x8x128_0_0_0 (R 0)]

section Run

variable (c : Dev nD) (i : grid0.Coords) (M2 : Memref sig .tc .vmem S1x1x64 .f32) (M3 : Memref sig .tc .vmem S8192x64 .f32)
  (f2 : Bf (F := F) c M2) (f3 : Bf (F := F) c M3)
  (g0 : Bf (F := F) c s0) (g1 : Bf (F := F) c s1) (g2 : Bf (F := F) c s2) (g3 : Bf (F := F) c s3)

/-- What a list holds when a block starts. -/
def bst0 : Bf (F := F) c s0 := if _ : topRun.sl.v2 i = 1#1 then
  s0.view.writes (Elt F) g0 [⟨Rect.unit ![0, 0, 0] S10x8x128.size inb_S10x8x128_S10x8x128_0_0_0, k0_pay46⟩] else g0
def st0 : S10x8x128.Idx → F .f32 := s0.view.read (Elt F) (bst0 c i g0)
def bst1 : Bf (F := F) c s1 := if _ : topRun.sl.v2 i = 1#1 then
  s1.view.writes (Elt F) g1 [⟨Rect.unit ![0, 0, 0] S10x8x128.size inb_S10x8x128_S10x8x128_0_0_0, k0_pay48⟩] else g1
def st1 : S10x8x128.Idx → BitVec 32 := s1.view.read (Elt F) (bst1 c i g1)
def bst2 : Bf (F := F) c s2 := if _ : topRun.sl.v2 i = 1#1 then
  s2.view.writes (Elt F) g2 [⟨Rect.unit ![0, 0, 0] S10x8x128.size inb_S10x8x128_S10x8x128_0_0_0, k0_pay47⟩] else g2
def st2 : S10x8x128.Idx → F .f32 := s2.view.read (Elt F) (bst2 c i g2)
def bst3 : Bf (F := F) c s3 := if _ : topRun.sl.v2 i = 1#1 then
  s3.view.writes (Elt F) g3 [⟨Rect.unit ![0, 0, 0] S10x8x128.size inb_S10x8x128_S10x8x128_0_0_0, k0_pay49⟩] else g3
def st3 : S10x8x128.Idx → BitVec 32 := s3.view.read (Elt F) (bst3 c i g3)

end Run

end Cert.Proof.Kernel

end
-- ==== Proof.Rounds.lean ====
/-
  The last block's ten rounds: the extreme value of what is left, the least id that has it, every entry of that id taken away,
  the id put in its lane.
-/
module

public import proofs.«01_k».proof.Proof.TopVal

@[expose] public section

noncomputable section

namespace Cert.Proof.Kernel

open Cert.Kernel Cert.Kernel.Gen

open Idealize.ShloMosaic Idealize.ShloMosaic.ValueIdx
open Idealize.ShloMosaic.TcCoe Idealize.ShloMosaic.Tactic

variable {F : FTy → Type} [FloatOps F]

section Defs

variable (kd : FKind) (b : BitVec 32) (hb : b = kd.neutral .f32 (.inl rfl)) (V : FVec F S10x8x128 .f32) (W : IVec S10x8x128 32)

/-- The extreme value of what is left. -/
def ext : F .f32 :=
  extractAt ![0, 0, 0, 0] (shapeCast S1x1x1x1 (multiReduction kd [1, 2, 3] S1 (shapeCast S1x10x8x128 V shapeCasts_S10x8x128_S1x10x8x128) b
    reduces_S1x10x8x128_S1 (.inl rfl) hb) shapeCasts_S1_S1x1x1x1) inpos_S1x1x1x1_p0_0_0_0

/-- The least id among the entries that have it. -/
def pick : BitVec 32 :=
  extractAt ![0, 0, 0, 0] (shapeCast S1x1x1x1 (multiReductionI .minsi [1, 2, 3] S1 (shapeCast S1x10x8x128
    (select (cmpf .oeq V (broadcast S10x8x128 (ext kd b hb V))) W (broadcast S10x8x128 2147483647#32)) shapeCasts_S10x8x128_S1x10x8x128)
    2147483647#32 reduces_S1x10x8x128_S1 rfl) shapeCasts_S1_S1x1x1x1) inpos_S1x1x1x1_p0_0_0_0

/-- What is left once every entry of that id is taken away. -/
def rest : FVec F S10x8x128 .f32 :=
  select (cmpi .eq W (broadcast S10x8x128 (pick kd b hb V W))) (broadcast S10x8x128 (Scalar.ofBits .f32 b)) V

/-- An id put in lane `k` of the first row. -/
def put (k : ℕ) (x : BitVec 32) (acc : IVec S8x128 32) : IVec S8x128 32 :=
  select (andi (cmpi .eq (iota .tc S8x128 32 [0] iota_S8x128_d0_w32) (broadcast S8x128 0#32))
    (cmpi .eq (iota .tc S8x128 32 [1] iota_S8x128_d1_w32) (broadcast S8x128 (BitVec.ofNat 32 k)))) (broadcast S8x128 x) acc

/-- What is left after `k` rounds. -/
def left : ℕ → FVec F S10x8x128 .f32
  | 0 => V
  | k + 1 => rest kd b hb (left k) W

/-- The ids after `k` rounds. -/
def ids : ℕ → IVec S8x128 32
  | 0 => broadcast S8x128 0#32
  | k + 1 => put k (pick kd b hb (left kd b hb V W k) W) (ids k)

end Defs

section Folds

variable (V : FVec F S10x8x128 .f32) (W : IVec S10x8x128 32)

theorem fold_ext_max : extractAt ![0, 0, 0, 0] (shapeCast S1x1x1x1 (multiReduction .maximumf [1, 2, 3] S1 (shapeCast S1x10x8x128 V shapeCasts_S10x8x128_S1x10x8x128)
    0xFF800000#32 reduces_S1x10x8x128_S1 (.inl rfl) rfl) shapeCasts_S1_S1x1x1x1) inpos_S1x1x1x1_p0_0_0_0 = ext .maximumf 0xFF800000#32 rfl V := rfl
theorem fold_ext_min : extractAt ![0, 0, 0, 0] (shapeCast S1x1x1x1 (multiReduction .minimumf [1, 2, 3] S1 (shapeCast S1x10x8x128 V shapeCasts_S10x8x128_S1x10x8x128)
    0x7F800000#32 reduces_S1x10x8x128_S1 (.inl rfl) rfl) shapeCasts_S1_S1x1x1x1) inpos_S1x1x1x1_p0_0_0_0 = ext .minimumf 0x7F800000#32 rfl V := rfl
theorem fold_pick (kd : FKind) (b : BitVec 32) (hb : b = kd.neutral .f32 (.inl rfl)) :
    extractAt ![0, 0, 0, 0] (shapeCast S1x1x1x1 (multiReductionI .minsi [1, 2, 3] S1 (shapeCast S1x10x8x128
    (select (cmpf .oeq V (broadcast S10x8x128 (ext kd b hb V))) W (broadcast S10x8x128 2147483647#32)) shapeCasts_S10x8x128_S1x10x8x128)
    2147483647#32 reduces_S1x10x8x128_S1 rfl) shapeCasts_S1_S1x1x1x1) inpos_S1x1x1x1_p0_0_0_0 = pick kd b hb V W := rfl
theorem fold_rest (kd : FKind) (b : BitVec 32) (hb : b = kd.neutral .f32 (.inl rfl)) :
    select (cmpi .eq W (broadcast S10x8x128 (pick kd b hb V W))) (broadcast S10x8x128 (Scalar.ofBits .f32 b)) V = rest kd b hb V W := rfl

end Folds

variable (c : Dev nD) (i : grid0.Coords) (M2 : Memref sig .tc .vmem S1x1x64 .f32) (M3 : Memref sig .tc .vmem S8192x64 .f32)
  (f2 : Bf (F := F) c M2) (f3 : Bf (F := F) c M3)
  (g0 : Bf (F := F) c s0) (g1 : Bf (F := F) c s1) (g2 : Bf (F := F) c s2) (g3 : Bf (F := F) c s3)

set_option maxHeartbeats 4000000 in
theorem best_ids : topRun.sl.v1273 c i M2 M3 f2 f3 g0 g1
    = ids .maximumf 0xFF800000#32 rfl (topRun.sl.v1045 c i M2 M3 f2 f3 g0) (topRun.sl.v1046 c i M2 M3 f2 f3 g0 g1) 10 := by
  simp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, topRun.sl.v1043, topRun.sl.v1044, topRun.sl.v1063, topRun.sl.v1070, topRun.sl.v1082, topRun.sl.v1084, topRun.sl.v1116, topRun.sl.v1128, topRun.sl.v1132, topRun.sl.v1162, topRun.sl.v1174, topRun.sl.v1178, topRun.sl.v1208, topRun.sl.v1220, topRun.sl.v1224, topRun.sl.v1273,
    fold_ext_max, fold_pick, fold_rest]
  rfl

set_option maxHeartbeats 4000000 in
theorem worst_ids : k0_pay45 topRun.sl.v1043 topRun.sl.v1044 (topRun.sl.v1276 c i M2 M3 f2 f3 g2 g3) (topRun.sl.v1438 c i M2 M3 f2 f3 g2 g3)
      (topRun.sl.v1450 c i M2 M3 f2 f3 g2 g3) (topRun.sl.v1454 c i M2 M3 f2 f3 g2 g3) (k0_pay43 topRun.sl.v1043) (k0_pay44 topRun.sl.v1044)
    = ids .minimumf 0x7F800000#32 rfl (topRun.sl.v1275 c i M2 M3 f2 f3 g2) (topRun.sl.v1276 c i M2 M3 f2 f3 g2 g3) 10 := by
  simp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, topRun.sl.v1043, topRun.sl.v1044, topRun.sl.v1300, topRun.sl.v1312, topRun.sl.v1316, topRun.sl.v1346, topRun.sl.v1358, topRun.sl.v1362, topRun.sl.v1392, topRun.sl.v1404, topRun.sl.v1408, topRun.sl.v1438, topRun.sl.v1450, topRun.sl.v1454,
    fold_ext_min, fold_pick, fold_rest]
  rfl

end Cert.Proof.Kernel

end
-- ==== Proof.Best.lean ====
/-
  Keeping the best entries of a sequence: a candidate is carried down a list, each entry it beats taking its place as the
  candidate.  The list holds the best of what has gone past it, in no order; the best of all the slots' lists, taken away ten
  times, is the best of everything.
-/
module

public import Mathlib.Data.EReal.Basic
public import Mathlib.Data.List.Perm.Subperm

@[expose] public section

namespace Cert.Proof.Best

variable {ι : Type}

/-- The candidate `c` carried down a list: the list it leaves and the candidate at the end. -/
noncomputable def carry : EReal × ι → List (EReal × ι) → List (EReal × ι) × (EReal × ι)
  | c, [] => ([], c)
  | c, e :: l => open Classical in if e.1 < c.1 then (c :: (carry e l).1, (carry e l).2) else (e :: (carry c l).1, (carry c l).2)

theorem carry_perm (l : List (EReal × ι)) : ∀ c, ((carry c l).2 :: (carry c l).1).Perm (c :: l) := by
  induction l with
  | nil => intro c; exact List.Perm.refl _
  | cons e l ih =>
    intro c
    unfold carry
    split
    · exact (List.Perm.swap _ _ _).trans (List.Perm.cons c (ih e))
    · exact (List.Perm.swap _ _ _).trans ((List.Perm.cons e (ih c)).trans (List.Perm.swap _ _ _))

theorem carry_le (l : List (EReal × ι)) : ∀ c, (carry c l).2.1 ≤ c.1 ∧ ∀ e ∈ (carry c l).1, (carry c l).2.1 ≤ e.1 := by
  induction l with
  | nil => intro c; exact ⟨le_refl _, fun e h => nomatch h⟩
  | cons e l ih =>
    intro c
    unfold carry
    split
    · rename_i h
      refine ⟨(ih e).1.trans h.le, fun x hx => ?_⟩
      rcases List.mem_cons.mp hx with rfl | hx
      · exact (ih e).1.trans h.le
      · exact (ih e).2 x hx
    · rename_i h
      refine ⟨(ih c).1, fun x hx => ?_⟩
      rcases List.mem_cons.mp hx with rfl | hx
      · exact (ih c).1.trans (not_lt.mp h)
      · exact (ih c).2 x hx

theorem carry_out (l : List (EReal × ι)) : ∀ c, (carry c l).2 ∈ l ∨ ((carry c l).2 = c ∧ (carry c l).1 = l) := by
  induction l with
  | nil => intro c; exact .inr ⟨rfl, rfl⟩
  | cons e l ih =>
    intro c
    unfold carry
    split
    · rcases ih e with h | h
      · exact .inl (List.mem_cons_of_mem _ h)
      · exact .inl (by rw [h.1]; exact List.mem_cons_self)
    · rcases ih c with h | h
      · exact .inl (List.mem_cons_of_mem _ h)
      · exact .inr ⟨h.1, by rw [h.2]⟩

/-- A list holds the best of the ids in `A` by the score `S`: a member above the bottom is an id of `A` with its score, once;
    an id of `A` that is no member scores no more than any member. -/
structure Holds (S : ι → EReal) (A : ι → Prop) (l : List (EReal × ι)) : Prop where
  mem : ∀ e ∈ l, e.1 ≠ ⊥ → A e.2 ∧ S e.2 = e.1
  once : l.Pairwise fun a b => a.1 ≠ ⊥ → b.1 ≠ ⊥ → a.2 ≠ b.2
  all : ∀ a, A a → (S a, a) ∈ l ∨ ∀ e ∈ l, S a ≤ e.1

variable {S : ι → EReal} {A A' : ι → Prop} {l : List (EReal × ι)}

/-- One more candidate: a fresh id with its score, or nothing at the bottom. -/
theorem Holds.carry (h : Holds S A l) (c : EReal × ι) (hc : c.1 = ⊥ ∨ (S c.2 = c.1 ∧ ¬ A c.2))
    (hA : ∀ a, A' a ↔ A a ∨ (c.1 ≠ ⊥ ∧ a = c.2)) : Holds S A' (carry c l).1 := by
  have hp := carry_perm l c
  have hsub : ∀ e ∈ (Best.carry c l).1, e = c ∨ e ∈ l := fun e he =>
    List.mem_cons.mp (hp.mem_iff.mp (List.mem_cons_of_mem _ he))
  have hsup : ∀ e, e = c ∨ e ∈ l → e = (Best.carry c l).2 ∨ e ∈ (Best.carry c l).1 := fun e he =>
    List.mem_cons.mp (hp.mem_iff.mpr (List.mem_cons.mpr he))
  refine ⟨fun e he hb => ?_, ?_, fun a ha => ?_⟩
  · rcases hsub e he with rfl | he
    · rcases hc with hc | hc
      · exact absurd hc hb
      · exact ⟨(hA _).mpr (.inr ⟨hb, rfl⟩), hc.1⟩
    · exact ⟨(hA _).mpr (.inl (h.mem e he hb).1), (h.mem e he hb).2⟩
  · have hs : ∀ {x y : EReal × ι}, (x.1 ≠ ⊥ → y.1 ≠ ⊥ → x.2 ≠ y.2) → (y.1 ≠ ⊥ → x.1 ≠ ⊥ → y.2 ≠ x.2) :=
      fun h hy hx e => h hx hy e.symm
    have : (c :: l).Pairwise fun a b => a.1 ≠ ⊥ → b.1 ≠ ⊥ → a.2 ≠ b.2 := by
      refine List.pairwise_cons.mpr ⟨fun e he hb hb' heq => ?_, h.once⟩
      rcases hc with hc | hc
      · exact hb hc
      · exact hc.2 (heq ▸ (h.mem e he hb').1)
    exact (List.pairwise_cons.mp ((hp.pairwise_iff hs).mpr this)).2
  · rcases (hA a).mp ha with ha | ⟨hb, rfl⟩
    · rcases h.all a ha with hm | hm
      · rcases hsup _ (.inr hm) with e | e
        · exact .inr fun x hx => by have := (carry_le l c).2 x hx; rw [← e] at this; exact this
        · exact .inl e
      · refine .inr fun x hx => ?_
        rcases carry_out l c with ho | ho
        · exact (hm _ ho).trans ((carry_le l c).2 x hx)
        · rw [ho.2] at hx; exact hm x hx
    · rcases hc with hc | hc
      · exact absurd hc hb
      have e0 : ((S c.2, c.2) : EReal × ι) = c := Prod.ext hc.1 rfl
      rw [e0]
      rcases hsup c (.inl rfl) with e | e
      · exact .inr fun x hx => by have := (carry_le l c).2 x hx; rw [← e] at this; rw [hc.1]; exact this
      · exact .inl e

/-- `g 0 … g 9` are the ten best of `N`, the best first, each better than everything after it. -/
structure Ranks (S : ι → EReal) (N : ι → Prop) (g : ℕ → ι) : Prop where
  mem : ∀ k < 10, N (g k)
  ne : ∀ k < 10, ∀ i < k, g i ≠ g k
  lt : ∀ k < 10, ∀ n, N n → (∀ i ≤ k, g i ≠ n) → S n < S (g k)

section Slots

variable {N : ι → Prop} {g : ℕ → ι} {P : Type} {slot : ι → P} {L : P → List (EReal × ι)}
  (hg : Ranks S N g) (hL : ∀ p, Holds S (fun a => N a ∧ slot a = p) (L p)) (h10 : ∀ p, (L p).length = 10) (hS : ∀ a, N a → S a ≠ ⊥)

include hg hL in
/-- A member that is not one of the first `k` scores no more than `g k`, and as much only if it is `g k`. -/
theorem member_le {k : ℕ} (hk : k < 10) {p : P} {e : EReal × ι} (he : e ∈ L p) (hb : e.1 ≠ ⊥) (hn : ∀ i < k, g i ≠ e.2) :
    e.1 ≤ S (g k) ∧ (e.1 = S (g k) → e.2 = g k) := by
  obtain ⟨⟨hN, -⟩, hs⟩ := (hL p).mem e he hb
  by_cases h : e.2 = g k
  · exact ⟨by rw [← hs, h], fun _ => h⟩
  · have := hg.lt k hk e.2 hN fun i hi => by
      rcases Nat.lt_or_eq_of_le hi with hi | rfl
      · exact hn i hi
      · exact fun e => h e.symm
    rw [hs] at this
    exact ⟨this.le, fun e => absurd e this.ne⟩

include hg hL h10 hS in
/-- `g k` is in its slot's list. -/
theorem best_mem {k : ℕ} (hk : k < 10) : (S (g k), g k) ∈ L (slot (g k)) := by
  rcases (hL (slot (g k))).all (g k) ⟨hg.mem k hk, rfl⟩ with h | h
  · exact h
  have hb : ∀ e ∈ L (slot (g k)), e.1 ≠ ⊥ := fun e he hb => hS _ (hg.mem k hk) (le_bot_iff.mp (hb ▸ h e he))
  by_cases hex : ∃ e ∈ L (slot (g k)), ∀ i < k, g i ≠ e.2
  · obtain ⟨e, he, hn⟩ := hex
    obtain ⟨h1, h2⟩ := member_le hg hL hk he (hb e he) hn
    have e1 := le_antisymm h1 (h e he)
    have e2 : e = (S (g k), g k) := Prod.ext e1 (h2 e1)
    rw [← e2]
    exact he
  · exfalso
    push Not at hex
    have hnd : ((L (slot (g k))).map (·.2)).Nodup := by
      refine List.pairwise_map.mpr ((hL (slot (g k))).once.imp_of_mem fun ha hb' h => h (hb _ ha) (hb _ hb'))
    have hs : (L (slot (g k))).map (·.2) ⊆ (List.range k).map g := fun x hx => by
      obtain ⟨e, he, rfl⟩ := List.mem_map.mp hx
      obtain ⟨i, hi, e'⟩ := hex e he
      exact List.mem_map.mpr ⟨i, List.mem_range.mpr hi, e'⟩
    have := (hnd.subperm hs).length_le
    rw [List.length_map, List.length_map, List.length_range, h10] at this
    omega

end Slots

end Cert.Proof.Best
-- ==== Proof.Extract.lean ====
/-
  The ten rounds at the ideal values: when the entries hold the ranked ids, round `k` picks the `k`-th.
-/
module

public import proofs.«01_k».proof.Proof.Rounds
public import proofs.«01_k».proof.Proof.Best
public import Idealize.ShloMosaic.PureOps.Ideal.Laws

@[expose] public section

noncomputable section

namespace Cert.Proof.Kernel

open Cert.Kernel Cert.Kernel.Gen

open Idealize.ShloMosaic Idealize.ShloMosaic.ValueIdx
open Idealize.ShloMosaic.TcCoe Idealize.ShloMosaic.Tactic

theorem bits_bot : Ideal.ofBits .f32 0xFF800000#32 = ⊥ := by simp [Ideal.ofBits, Ideal.ieee]
theorem bits_top : Ideal.ofBits .f32 0x7F800000#32 = ⊤ := by simp [Ideal.ofBits, Ideal.ieee]

/-- Every element of a reduction over all the axes is read. -/
theorem drop_all (y : S1x10x8x128.Idx) (j : S1.Idx) : reduces_S1x10x8x128_S1.drop y = j := by
  funext a
  have : ∀ a : Fin S1.rank, S1.size a = 1 := by decide
  have h1 := (reduces_S1x10x8x128_S1.drop y a).isLt
  have h2 := (j a).isLt
  have h3 := this a
  exact Fin.ext (by omega)

/-- The position of an entry in the array the rounds reduce. -/
def at4 (x : S10x8x128.Idx) : S1x10x8x128.Idx := ix4 (0 : Fin 1) (x 0) (x 1) (x 2)

theorem cast_at {α : Type} (V : S10x8x128.Idx → α) (x : S10x8x128.Idx) :
    shapeCast S1x10x8x128 V shapeCasts_S10x8x128_S1x10x8x128 (at4 x) = V x := by
  refine (shapeCast_abc_1abc_apply V _ (0 : Fin 1) (x 0) (x 1) (x 2)).trans (congrArg V ?_)
  exact (eq_ix3 x).symm

theorem cast_of {α : Type} (V : S10x8x128.Idx → α) (y : S1x10x8x128.Idx) :
    ∃ x, shapeCast S1x10x8x128 V shapeCasts_S10x8x128_S1x10x8x128 y = V x := ⟨_, rfl⟩

theorem cast_ix (y : S1x10x8x128.Idx) : ∃ x : S10x8x128.Idx, y = at4 x :=
  ⟨ix3 (y 1) (y 2) (y 3), (eq_ix4 y).trans (congrArg (fun k => ix4 k (y 1) (y 2) (y 3)) (Subsingleton.elim (α := Fin 1) _ _))⟩

theorem ofBool_one (q : Prop) [Decidable q] : BitVec.ofBool (decide q) = 1#1 ↔ q := by
  by_cases h : q <;> simp [h]

section Reduced

variable {s t : Shape} {axes : List (Fin s.rank)} (h : s.Reduces axes t) (hd : ∀ y j, h.drop y = j)

include hd

theorem reduce_max (b : EReal) (hb : b = ⊥) (x : s.Idx → EReal) (j : t.Idx) :
    (∀ y, x y ≤ reduceFold h max b x j) ∧ (reduceFold h max b x j = ⊥ ∨ ∃ y, x y = reduceFold h max b x j) := by
  have le : ∀ y, x y ≤ reduceFold h max b x j := fun y => by
    rw [reduceFold_eq_fold]
    exact (Finset.le_fold_max _).mpr (.inr ⟨y, Finset.mem_filter.mpr ⟨Finset.mem_univ _, hd _ _⟩, le_rfl⟩)
  refine ⟨le, ?_⟩
  have := (reduceFold_eq_fold h max b x j).le
  rcases (Finset.le_fold_max _).mp this with h' | ⟨y, -, h'⟩
  · exact .inl (le_bot_iff.mp (hb ▸ h'))
  · exact .inr ⟨y, le_antisymm (le y) h'⟩

theorem reduce_min (b : EReal) (hb : b = ⊤) (x : s.Idx → EReal) (j : t.Idx) :
    (∀ y, reduceFold h min b x j ≤ x y) ∧ (reduceFold h min b x j = ⊤ ∨ ∃ y, x y = reduceFold h min b x j) := by
  have le : ∀ y, reduceFold h min b x j ≤ x y := fun y => by
    rw [reduceFold_eq_fold]
    exact (Finset.fold_min_le _).mpr (.inr ⟨y, Finset.mem_filter.mpr ⟨Finset.mem_univ _, hd _ _⟩, le_rfl⟩)
  refine ⟨le, ?_⟩
  have := (reduceFold_eq_fold h min b x j).ge
  rcases (Finset.fold_min_le _).mp this with h' | ⟨y, -, h'⟩
  · exact .inl (top_le_iff.mp (hb ▸ h'))
  · exact .inr ⟨y, le_antisymm h' (le y)⟩

end Reduced

/-- One of the kernel's two directions: the greatest scores first, or the least. -/
structure Dir where
  kd : FKind
  b : BitVec 32
  hb : b = kd.neutral .f32 (.inl rfl)
  p : CmpFPredicate
  f : EReal → EReal
  inj : ∀ x y, f x = f y → x = y
  bot : f (Ideal.ofBits .f32 b) = ⊥
  cmp : ∀ x y, Ideal.cmp p x y = 1#1 ↔ f y < f x
  le : ∀ (V : FVec Ideal S10x8x128 .f32) x, f (V x) ≤ f (ext kd b hb V)
  att : ∀ V : FVec Ideal S10x8x128 .f32, f (ext kd b hb V) = ⊥ ∨ ∃ x, V x = ext kd b hb V

theorem extract_cast {α : Type} {s t : Shape} (pos : Fin t.rank → ℕ) (hp) (h : s.ShapeCasts t) (y : s.Idx → α) :
    ∃ j, extractAt pos (shapeCast t y h) hp = y j := ⟨_, rfl⟩

theorem ext_max (V : FVec Ideal S10x8x128 .f32) : ∃ j, ext .maximumf 0xFF800000#32 rfl V
    = reduceFold reduces_S1x10x8x128_S1 (max : EReal → EReal → EReal) (Ideal.ofBits .f32 0xFF800000#32)
        (shapeCast S1x10x8x128 V shapeCasts_S10x8x128_S1x10x8x128) j := by
  unfold ext
  exact (extract_cast _ _ _ _).imp fun j h => h.trans (congrFun (multiReduction_maximumf_eq_reduceFold _ _ _ _ _) j)

theorem ext_min (V : FVec Ideal S10x8x128 .f32) : ∃ j, ext .minimumf 0x7F800000#32 rfl V
    = reduceFold reduces_S1x10x8x128_S1 (min : EReal → EReal → EReal) (Ideal.ofBits .f32 0x7F800000#32)
        (shapeCast S1x10x8x128 V shapeCasts_S10x8x128_S1x10x8x128) j := by
  unfold ext
  exact (extract_cast _ _ _ _).imp fun j h => h.trans (congrFun (multiReduction_minimumf_eq_reduceFold _ _ _ _ _) j)

/-- The greatest first. -/
def up : Dir where
  kd := .maximumf
  b := 0xFF800000#32
  hb := rfl
  p := .ogt
  f := fun x => x
  inj := fun _ _ h => h
  bot := bits_bot
  cmp := fun x y => ofBool_one _
  le := fun V x => by
    obtain ⟨j, h⟩ := ext_max V
    have := (reduce_max reduces_S1x10x8x128_S1 drop_all _ bits_bot (shapeCast S1x10x8x128 V shapeCasts_S10x8x128_S1x10x8x128) j).1
      (at4 x)
    rw [← h, cast_at] at this
    exact this
  att := fun V => by
    obtain ⟨j, h⟩ := ext_max V
    have := (reduce_max reduces_S1x10x8x128_S1 drop_all _ bits_bot (shapeCast S1x10x8x128 V shapeCasts_S10x8x128_S1x10x8x128) j).2
    rw [← h] at this
    exact this.imp id fun ⟨y, hy⟩ => (cast_of V y).imp fun x hx => hx.symm.trans hy

/-- The least first. -/
def down : Dir where
  kd := .minimumf
  b := 0x7F800000#32
  hb := rfl
  p := .olt
  f := fun x => -x
  inj := fun _ _ h => neg_injective h
  bot := by show -(Ideal.ofBits .f32 0x7F800000#32) = ⊥; rw [bits_top]; exact EReal.neg_top
  cmp := fun x y => (ofBool_one _).trans EReal.neg_lt_neg_iff.symm
  le := fun V x => by
    obtain ⟨j, h⟩ := ext_min V
    have := (reduce_min reduces_S1x10x8x128_S1 drop_all _ bits_top (shapeCast S1x10x8x128 V shapeCasts_S10x8x128_S1x10x8x128) j).1
      (at4 x)
    rw [← h, cast_at] at this
    exact EReal.neg_le_neg_iff.mpr this
  att := fun V => by
    obtain ⟨j, h⟩ := ext_min V
    have := (reduce_min reduces_S1x10x8x128_S1 drop_all _ bits_top (shapeCast S1x10x8x128 V shapeCasts_S10x8x128_S1x10x8x128) j).2
    rw [← h] at this
    exact this.imp (fun e => (congrArg (fun x : EReal => -x) e).trans EReal.neg_top) fun ⟨y, hy⟩ => (cast_of V y).imp fun x hx => hx.symm.trans hy

theorem foldl_const {α β : Type} (op : β → β → β) (w b : β) (hw : op w w = w) (hwb : op w b = w) (f : α → β) (l : List α)
    (hf : ∀ a ∈ l, f a = w ∨ f a = b) : l.foldl (fun r a => op r (f a)) w = w := by
  induction l with
  | nil => rfl
  | cons a l ih =>
    have : op w (f a) = w := by rcases hf a List.mem_cons_self with e | e <;> rw [e] <;> assumption
    rw [List.foldl_cons, this]
    exact ih fun x hx => hf x (List.mem_cons_of_mem _ hx)

theorem foldl_pick {α β : Type} (op : β → β → β) (w b : β) (hw : op w w = w) (hwb : op w b = w) (hbw : op b w = w) (hbb : op b b = b)
    (f : α → β) (l : List α) (hf : ∀ a ∈ l, f a = w ∨ f a = b) (hex : ∃ a ∈ l, f a = w) : l.foldl (fun r a => op r (f a)) b = w := by
  induction l with
  | nil => obtain ⟨a, h, -⟩ := hex; exact nomatch h
  | cons a l ih =>
    rw [List.foldl_cons]
    have hf' : ∀ x ∈ l, f x = w ∨ f x = b := fun x hx => hf x (List.mem_cons_of_mem _ hx)
    by_cases e : f a = w
    · rw [e, hbw]; exact foldl_const op w b hw hwb f l hf'
    · have e' : f a = b := (hf a List.mem_cons_self).resolve_left e
      rw [e', hbb]
      obtain ⟨x, hx, h⟩ := hex
      rcases List.mem_cons.mp hx with rfl | hx
      · exact absurd h e
      · exact ih hf' ⟨x, hx, h⟩

theorem reduce_pick {s t : Shape} {axes : List (Fin s.rank)} (h : s.Reduces axes t) (hd : ∀ y j, h.drop y = j) {β : Type} (op : β → β → β)
    (w b : β) (hw : op w w = w) (hwb : op w b = w) (hbw : op b w = w) (hbb : op b b = b) (x : s.Idx → β) (hx : ∀ y, x y = w ∨ x y = b)
    (hex : ∃ y, x y = w) (j : t.Idx) : reduceFold h op b x j = w := by
  unfold reduceFold
  obtain ⟨y, hy⟩ := hex
  refine foldl_pick op w b hw hwb hbw hbb _ _ (fun n _ => hx _) ⟨s.rowMajor y, List.mem_filter.mpr ⟨List.mem_finRange _, decide_eq_true (hd _ _)⟩, ?_⟩
  rw [Equiv.symm_apply_apply, hy]

theorem minsi_big (w : BitVec 32) : IntOp.minsi w 2147483647#32 = w ∧ IntOp.minsi 2147483647#32 w = w := by
  have h : w.toInt ≤ 2147483647 := by have := BitVec.toInt_le (x := w); norm_num at this; exact this
  have hb : (2147483647#32 : BitVec 32).toInt = 2147483647 := by decide
  unfold IntOp.minsi
  simp only [BitVec.slt, hb, decide_eq_true_eq]
  refine ⟨?_, ?_⟩
  · split
    · rfl
    · exact BitVec.eq_of_toInt_eq (by omega)
  · rw [if_neg (by omega)]

variable (D : Dir) (V : FVec Ideal S10x8x128 .f32) (W : IVec S10x8x128 32)

/-- When every entry with the extreme value has the id `w`, that is the id picked. -/
theorem pick_eq (w : BitVec 32) (h : ∀ x, V x = ext D.kd D.b D.hb V → W x = w) (hex : ∃ x, V x = ext D.kd D.b D.hb V) :
    pick D.kd D.b D.hb V W = w := by
  obtain ⟨j, e⟩ : ∃ j, pick D.kd D.b D.hb V W = multiReductionI .minsi [1, 2, 3] S1 (shapeCast S1x10x8x128
    (select (cmpf .oeq V (broadcast S10x8x128 (ext D.kd D.b D.hb V))) W (broadcast S10x8x128 2147483647#32)) shapeCasts_S10x8x128_S1x10x8x128)
    2147483647#32 reduces_S1x10x8x128_S1 rfl j := by
    unfold pick
    exact extract_cast _ _ _ _
  have hs : ∀ x, select (cmpf .oeq V (broadcast S10x8x128 (ext D.kd D.b D.hb V))) W (broadcast S10x8x128 2147483647#32) x
      = if V x = ext D.kd D.b D.hb V then w else 2147483647#32 := fun x => by
    show (if Ideal.cmp .oeq (V x) (ext D.kd D.b D.hb V) = 1#1 then W x else 2147483647#32) = _
    by_cases hx : V x = ext D.kd D.b D.hb V
    · rw [if_pos hx, if_pos (by simp [Ideal.cmp, hx]), h x hx]
    · rw [if_neg hx, if_neg (by simp [Ideal.cmp, hx])]
  rw [e]
  show reduceFold _ IntOp.minsi 2147483647#32 _ j = w
  refine reduce_pick reduces_S1x10x8x128_S1 drop_all IntOp.minsi w 2147483647#32 (by unfold IntOp.minsi; split <;> rfl) (minsi_big w).1 (minsi_big w).2 rfl _
    (fun y => ?_) ?_ j
  · have : ∃ x : S10x8x128.Idx, y = at4 x := cast_ix y
    obtain ⟨x, rfl⟩ := this
    rw [cast_at, hs]
    by_cases hx : V x = ext D.kd D.b D.hb V
    · exact .inl (if_pos hx)
    · exact .inr (if_neg hx)
  · obtain ⟨x, hx⟩ := hex
    exact ⟨at4 x, by rw [cast_at, hs, if_pos hx]⟩

theorem cmpi_eq_ne {a b : BitVec 32} (e : a ≠ b) : ¬IntOp.cmpi .eq a b = 1#1 := by
  show ¬BitVec.ofBool (a == b) = 1#1
  rw [beq_eq_false_iff_ne.mpr e]
  decide

theorem rest_at (kd : FKind) (b : BitVec 32) (hb : b = kd.neutral .f32 (.inl rfl)) (V : FVec Ideal S10x8x128 .f32) (W : IVec S10x8x128 32) (w : BitVec 32) (x)
    (h : pick kd b hb V W = w) : rest kd b hb V W x = if W x = w then Ideal.ofBits .f32 b else V x := by
  unfold rest
  rw [h]
  show (if IntOp.cmpi .eq (W x) w = 1#1 then Ideal.ofBits .f32 b else V x) = _
  by_cases e : W x = w
  · rw [if_pos e, if_pos (by simp [IntOp.cmpi, e])]
  · rw [if_neg e, if_neg (cmpi_eq_ne e)]

theorem put_at (n : ℕ) (w : BitVec 32) (acc : IVec S8x128 32) (k : Fin 128) (hn : n < 10) :
    put n w acc (ix2 (0 : Fin 8) k) = if k.val = n then w else acc (ix2 (0 : Fin 8) k) := by
  unfold put
  show (if IntOp.andi (IntOp.cmpi .eq (BitVec.ofNat 32 (0 * 8 + 0)) 0#32) (IntOp.cmpi .eq (BitVec.ofNat 32 (0 * 128 + k.val)) (BitVec.ofNat 32 n)) = 1#1
      then w else acc (ix2 (0 : Fin 8) k)) = _
  have hk := k.isLt
  have hz : IntOp.cmpi .eq (BitVec.ofNat 32 (0 * 8 + 0)) 0#32 = 1#1 := by decide
  rw [hz]
  by_cases e : k.val = n
  · rw [if_pos e, if_pos (by simp [IntOp.cmpi, IntOp.andi, e])]
  · have h : BitVec.ofNat 32 (0 * 128 + k.val) ≠ BitVec.ofNat 32 n := fun h => e (by
      have := congrArg BitVec.toNat h
      simp only [BitVec.toNat_ofNat] at this
      omega)
    have h' : IntOp.cmpi .eq (BitVec.ofNat 32 (0 * 128 + k.val)) (BitVec.ofNat 32 n) = 0#1 := by
      show BitVec.ofBool (BitVec.ofNat 32 (0 * 128 + k.val) == BitVec.ofNat 32 n) = 0#1
      rw [beq_eq_false_iff_ne.mpr h]; rfl
    rw [if_neg e, h', if_neg (by decide)]

section Ranked

variable {S : BitVec 32 → EReal} {g : ℕ → BitVec 32}
  (hne : ∀ k < 10, ∀ i < k, g i ≠ g k) (hS : ∀ k < 10, S (g k) ≠ ⊥)
  (hm : ∀ x, ∀ k < 10, D.f (V x) ≠ ⊥ → (∀ i < k, g i ≠ W x) → D.f (V x) ≤ S (g k) ∧ (D.f (V x) = S (g k) → W x = g k))
  (he : ∀ k < 10, ∃ x, D.f (V x) = S (g k) ∧ W x = g k)

include hne hS hm he

open Classical in
theorem pick_of_left {k : ℕ} (hk : k < 10)
    (hl : ∀ x, left D.kd D.b D.hb V W k x = if ∃ i < k, g i = W x then Ideal.ofBits .f32 D.b else V x) :
    pick D.kd D.b D.hb (left D.kd D.b D.hb V W k) W = g k := by
  obtain ⟨x0, h0, w0⟩ := he k hk
  have l0 : left D.kd D.b D.hb V W k x0 = V x0 := by
    rw [hl, if_neg]
    rintro ⟨i, hi, e⟩
    exact hne k hk i hi (e.trans w0)
  have hge : S (g k) ≤ D.f (ext D.kd D.b D.hb (left D.kd D.b D.hb V W k)) := by
    have := D.le (left D.kd D.b D.hb V W k) x0
    rwa [l0, h0] at this
  have hnb : D.f (ext D.kd D.b D.hb (left D.kd D.b D.hb V W k)) ≠ ⊥ := fun e => hS k hk (le_bot_iff.mp (e ▸ hge))
  have key : ∀ x, left D.kd D.b D.hb V W k x = ext D.kd D.b D.hb (left D.kd D.b D.hb V W k) → W x = g k := fun x hx => by
    by_cases hd : ∃ i < k, g i = W x
    · rw [hl, if_pos hd] at hx
      exact absurd (hx ▸ D.bot) hnb
    · rw [hl, if_neg hd] at hx
      push Not at hd
      have hn : D.f (V x) ≠ ⊥ := by rw [hx]; exact hnb
      obtain ⟨h1, h2⟩ := hm x k hk hn hd
      exact h2 (le_antisymm h1 (by rw [hx]; exact hge))
  exact pick_eq D _ W (g k) key ((D.att _).resolve_left hnb)

open Classical in
theorem left_eq : ∀ k ≤ 10, ∀ x, left D.kd D.b D.hb V W k x = if ∃ i < k, g i = W x then Ideal.ofBits .f32 D.b else V x
  | 0, _, x => by
    rw [if_neg (fun ⟨i, hi, _⟩ => absurd hi (Nat.not_lt_zero i))]; rfl
  | k + 1, hk, x => by
    have ih := left_eq k (by omega)
    have hp := pick_of_left D V W hne hS hm he (by omega) ih
    refine (rest_at _ _ _ _ _ _ _ hp).trans ?_
    rw [ih x]
    by_cases e : W x = g k
    · rw [if_pos e, if_pos ⟨k, by omega, e.symm⟩]
    · rw [if_neg e]
      by_cases hd : ∃ i < k, g i = W x
      · rw [if_pos hd, if_pos (hd.imp fun i h => ⟨by omega, h.2⟩)]
      · rw [if_neg hd, if_neg]
        rintro ⟨i, hi, h⟩
        rcases Nat.lt_succ_iff_lt_or_eq.mp hi with hi | rfl
        · exact hd ⟨i, hi, h⟩
        · exact e h.symm

theorem ids_eq : ∀ n ≤ 10, ∀ k : Fin 128, ids D.kd D.b D.hb V W n (ix2 (0 : Fin 8) k) = if k.val < n then g k.val else 0#32
  | 0, _, k => rfl
  | n + 1, hn, k => by
    have hp := pick_of_left D V W hne hS hm he (by omega) (left_eq D V W hne hS hm he n (by omega))
    have ih := ids_eq n (by omega) k
    refine (put_at _ _ _ _ (by omega)).trans ?_
    rw [hp, ih]
    by_cases e : k.val = n
    · rw [if_pos e, if_pos (by omega), e]
    · rw [if_neg e]
      by_cases h : k.val < n
      · rw [if_pos h, if_pos (by omega)]
      · rw [if_neg h, if_neg (by omega)]

end Ranked

end Cert.Proof.Kernel

end
-- ==== Proof.Slots.lean ====
/-
  The slots' lists at the ideal values: what the tiles of a block make of them, and what the ten rounds read off them.
-/
module

public import proofs.«01_k».proof.Proof.Extract
public import proofs.«01_k».proof.Proof.TopVal
public import Idealize.ShloMosaic.Lib.WritesUnit

@[expose] public section

noncomputable section

namespace Cert.Proof.Kernel

open Cert.Kernel Cert.Kernel.Gen

open Idealize.ShloMosaic Idealize.ShloMosaic.ValueIdx
open Idealize.ShloMosaic.TcCoe Idealize.ShloMosaic.Tactic

/-- A list carried row by row. -/
theorem carry_rows {ι : Type} (e o cv : ℕ → EReal × ι)
    (hlt : ∀ j, (e j).1 < (cv j).1 → o j = cv j ∧ cv (j + 1) = e j)
    (hge : ∀ j, ¬(e j).1 < (cv j).1 → o j = e j ∧ cv (j + 1) = cv j) :
    ∀ n s, Best.carry (cv s) ((List.range n).map fun j => e (s + j)) = ((List.range n).map fun j => o (s + j), cv (s + n))
  | 0, s => rfl
  | n + 1, s => by
    have ih := carry_rows e o cv hlt hge n (s + 1)
    have sh : ∀ f : ℕ → EReal × ι, (List.range (n + 1)).map (fun j => f (s + j)) = f s :: (List.range n).map fun j => f (s + 1 + j) := fun f => by
      rw [List.range_succ_eq_map, List.map_cons, List.map_map]
      refine congrArg _ (List.map_congr_left fun j _ => ?_)
      show f (s + (j + 1)) = _
      congr 1; omega
    rw [sh, sh, show s + (n + 1) = s + 1 + n by omega]
    unfold Best.carry
    split
    · rename_i h
      obtain ⟨h1, h2⟩ := hlt s h
      rw [← h2, ih, h1]
    · rename_i h
      obtain ⟨h1, h2⟩ := hge s h
      rw [h2] at ih
      rw [ih, h1]

/-- The slot of an id. -/
def slot (a : BitVec 32) : S8x128.Idx :=
  ix2 (⟨a.toNat / 128 % 8, Nat.mod_lt _ (by decide)⟩ : Fin 8) (⟨a.toNat % 128, Nat.mod_lt _ (by decide)⟩ : Fin 128)

theorem slot_eq (a : BitVec 32) (x : S8x128.Idx) : slot a = x ↔ a.toNat / 128 % 8 = (x 0).val ∧ a.toNat % 128 = (x 1).val := by
  constructor
  · rintro rfl; exact ⟨rfl, rfl⟩
  · rintro ⟨h0, h1⟩
    rw [eq_ix2 x]
    unfold slot
    congr 1 <;> exact Fin.ext (by assumption)

variable (D : Dir) (S : BitVec 32 → EReal)

/-- A slot's list. -/
def entries (r : ℕ → FVec Ideal S8x128 .f32) (ri : ℕ → IVec S8x128 32) (x : S8x128.Idx) : List (EReal × BitVec 32) :=
  (List.range 10).map fun j => (D.f (r j x), ri j x)

/-- The slots' lists hold the best of the ids below `n`. -/
def Keeps (n : ℕ) (r : ℕ → FVec Ideal S8x128 .f32) (ri : ℕ → IVec S8x128 32) : Prop :=
  ∀ x, Best.Holds S (fun a => (a.toNat < n ∧ a.toNat < 1000000) ∧ slot a = x) (entries D r ri x)

/-- Lists at the bottom hold nothing. -/
theorem keeps_zero (r : ℕ → FVec Ideal S8x128 .f32) (ri : ℕ → IVec S8x128 32) (h : ∀ j x, D.f (r j x) = ⊥) : Keeps D S 0 r ri := fun x => by
  have hb : ∀ e ∈ entries D r ri x, e.1 = ⊥ := fun e he => by
    obtain ⟨j, -, rfl⟩ := List.mem_map.mp he
    exact h j x
  refine ⟨fun e he hn => absurd (hb e he) hn, ?_, fun a ha => absurd ha.1.1 (Nat.not_lt_zero _)⟩
  exact List.Pairwise.imp_of_mem (R := fun _ _ => True) (fun ha _ _ hn => absurd (hb _ ha) hn) (List.pairwise_of_forall fun _ _ => trivial)

theorem keeps_congr {n : ℕ} {r r' : ℕ → FVec Ideal S8x128 .f32} {ri ri' : ℕ → IVec S8x128 32} (h : ∀ j < 10, r j = r' j) (hi : ∀ j < 10, ri j = ri' j)
    (hk : Keeps D S n r ri) : Keeps D S n r' ri' := fun x => by
  have : entries D r' ri' x = entries D r ri x := List.map_congr_left fun j hj => by
    rw [h j (List.mem_range.mp hj), hi j (List.mem_range.mp hj)]
  rw [this]
  exact hk x

section Tiles

variable (V : FVec Ideal S1x64x128 .f32) (W : IVec S1x64x128 32) (t : ℕ) (r : ℕ → FVec Ideal S8x128 .f32) (ri : ℕ → IVec S8x128 32)

theorem tile_step (k : ℕ) (x : S8x128.Idx) :
    entries D (RV D.p V r (k + 1)) (RI D.p V W r ri (k + 1)) x
      = (Best.carry (D.f (tile k V x), tile k W x) (entries D (RV D.p V r k) (RI D.p V W r ri k) x)).1 := by
  have h := carry_rows (fun j => (D.f (RV D.p V r k j x), RI D.p V W r ri k j x))
    (fun j => (D.f (RV D.p V r (k + 1) j x), RI D.p V W r ri (k + 1) j x))
    (fun j => (D.f (carV D.p (tile k V) (RV D.p V r k) j x), carI D.p (tile k V) (RV D.p V r k) (tile k W) (RI D.p V W r ri k) j x))
    (fun j h => ?_) (fun j h => ?_) 10 0
  · simp only [Nat.zero_add] at h
    unfold entries
    exact (congrArg Prod.fst h).symm
  · have hc := (D.cmp _ _).mpr h
    refine ⟨Prod.ext (congrArg D.f ?_) ?_, Prod.ext (congrArg D.f ?_) ?_⟩
    · exact if_pos hc
    · exact if_pos hc
    · exact if_pos hc
    · exact if_pos hc
  · have hc : ¬ _ := fun e => h ((D.cmp _ _).mp e)
    refine ⟨Prod.ext (congrArg D.f ?_) ?_, Prod.ext (congrArg D.f ?_) ?_⟩
    · exact if_neg hc
    · exact if_neg hc
    · exact if_neg hc
    · exact if_neg hc

variable (hW : ∀ y, (W y).toNat = t * 8192 + (y 1).val * 128 + (y 2).val)
  (hV : ∀ y, (W y).toNat < 1000000 → D.f (V y) = S (W y)) (hX : ∀ y, 1000000 ≤ (W y).toNat → D.f (V y) = ⊥)
  (hS : ∀ a : BitVec 32, a.toNat < 1000000 → S a ≠ ⊥)

include hW hV hX hS

theorem keeps_tiles (h0 : Keeps D S (t * 8192) r ri) : ∀ k ≤ 8, Keeps D S (t * 8192 + k * 1024) (RV D.p V r k) (RI D.p V W r ri k) := by
  intro k
  induction k with
  | zero => intro _; rw [Nat.zero_mul, Nat.add_zero]; exact h0
  | succ k ih =>
    intro hk x
    have ih := ih (by omega) x
    rw [tile_step]
    have w := hW (ix3 (0 : Fin 1) (⟨(8 * k + (x 0).val) % 64, Nat.mod_lt _ (by decide)⟩ : Fin 64) (x 1))
    have x0 : (x 0).val < 8 := (x 0).isLt
    have x1 : (x 1).val < 128 := (x 1).isLt
    have w' : (tile k W x).toNat = t * 8192 + k * 1024 + (x 0).val * 128 + (x 1).val := by
      refine w.trans ?_
      show t * 8192 + ((8 * k + (x 0).val) % 64) * 128 + (x 1).val = _
      rw [Nat.mod_eq_of_lt (by omega)]
      omega
    have v := hV (ix3 (0 : Fin 1) (⟨(8 * k + (x 0).val) % 64, Nat.mod_lt _ (by decide)⟩ : Fin 64) (x 1))
    have v' := hX (ix3 (0 : Fin 1) (⟨(8 * k + (x 0).val) % 64, Nat.mod_lt _ (by decide)⟩ : Fin 64) (x 1))
    change (tile k W x).toNat < 1000000 → D.f (tile k V x) = S (tile k W x) at v
    change 1000000 ≤ (tile k W x).toNat → D.f (tile k V x) = ⊥ at v'
    refine ih.carry _ ?_ fun a => ?_
    · by_cases hl : (tile k W x).toNat < 1000000
      · refine .inr ⟨(v hl).symm, fun h => ?_⟩
        have := h.1.1
        change (tile k W x).toNat < _ at this
        omega
      · exact .inl (v' (by omega))
    · show ((a.toNat < t * 8192 + (k + 1) * 1024 ∧ a.toNat < 1000000) ∧ slot a = x) ↔
        ((a.toNat < t * 8192 + k * 1024 ∧ a.toNat < 1000000) ∧ slot a = x) ∨ (D.f (tile k V x) ≠ ⊥ ∧ a = tile k W x)
      rw [slot_eq]
      constructor
      · rintro ⟨⟨h1, h2⟩, h3, h4⟩
        by_cases hl : a.toNat < t * 8192 + k * 1024
        · exact .inl ⟨⟨hl, h2⟩, h3, h4⟩
        · have e : a.toNat = (tile k W x).toNat := by omega
          refine .inr ⟨?_, BitVec.eq_of_toNat_eq e⟩
          rw [v (by omega)]
          exact hS _ (by omega)
      · rintro (⟨⟨h1, h2⟩, h3, h4⟩ | ⟨hn, rfl⟩)
        · exact ⟨⟨by omega, h2⟩, h3, h4⟩
        · have hl : (tile k W x).toNat < 1000000 := by
            by_contra hl
            exact hn (v' (by omega))
          exact ⟨⟨by omega, hl⟩, by omega, by omega⟩

end Tiles

/-- What the ten rounds read off lists that hold the best of all the ids. -/
theorem ids_of_keeps (n : ℕ) (hn : 1000000 ≤ n) (G : FVec Ideal S10x8x128 .f32) (H : IVec S10x8x128 32) (g : ℕ → BitVec 32)
    (hk : Keeps D S n (rowAt G) (rowAt H)) (hg : Best.Ranks S (fun a => a.toNat < 1000000) g)
    (hS : ∀ a : BitVec 32, a.toNat < 1000000 → S a ≠ ⊥) (k : Fin 128) (hk10 : k.val < 10) :
    ids D.kd D.b D.hb G H 10 (ix2 (0 : Fin 8) k) = g k.val := by
  have hL : ∀ p, Best.Holds S (fun a => a.toNat < 1000000 ∧ slot a = p) (entries D (rowAt G) (rowAt H) p) := fun p => by
    have : (fun a : BitVec 32 => a.toNat < 1000000 ∧ slot a = p) = fun a => (a.toNat < n ∧ a.toNat < 1000000) ∧ slot a = p :=
      funext fun a => propext ⟨fun h => ⟨⟨by omega, h.1⟩, h.2⟩, fun h => ⟨h.1.2, h.2⟩⟩
    rw [this]
    exact hk p
  have h10 : ∀ p, (entries D (rowAt G) (rowAt H) p).length = 10 := fun p => by simp [entries]
  refine (ids_eq D G H hg.ne (fun k hk => hS _ (hg.mem k hk)) (fun x k hk hb hd => ?_) (fun k hk => ?_) 10 le_rfl k).trans (if_pos hk10)
  · have he : (D.f (G x), H x) ∈ entries D (rowAt G) (rowAt H) (ix2 (x 1) (x 2)) := by
      refine List.mem_map.mpr ⟨(x 0).val, List.mem_range.mpr (x 0).isLt, ?_⟩
      have hx : ix3 (⟨(x 0).val % 10, Nat.mod_lt _ (by decide)⟩ : Fin 10) (x 1) (x 2) = x :=
        (congrArg (fun a => ix3 a (x 1) (x 2)) (Fin.ext (Nat.mod_eq_of_lt (x 0).isLt))).trans (eq_ix3 x).symm
      exact congrArg (fun y => (D.f (G y), H y)) hx
    exact Best.member_le hg hL hk he hb hd
  · obtain ⟨j, -, hj⟩ := List.mem_map.mp (Best.best_mem hg hL h10 hS hk)
    exact ⟨_, congrArg Prod.fst hj, congrArg Prod.snd hj⟩

/-! ## The rows written back -/

theorem read_lst {e : EltTy} {sp : Space} (v : View sig .tc sp S10x8x128 e) (f : v.ty.Contents (Elt Ideal)) (R : ℕ → S8x128.Idx → Elt Ideal e)
    (j : ℕ) (hj : j < 10) : rowAt (v.read (Elt Ideal) (v.writes (Elt Ideal) f (lst R))) j = R j := by
  funext x
  have hit : ∀ (k : ℕ) (h) (L) (hk : k = j), v.read (Elt Ideal) (v.writes (Elt Ideal) f (piece k h (R k) :: L))
      (ix3 (⟨j % 10, Nat.mod_lt _ (by decide)⟩ : Fin 10) (x 0) (x 1)) = R j x := fun k h L hk => by
    subst hk
    refine (View.read_writes_cons_unit_of_mem v f h _ L _ (ix3 (0 : Fin 1) (x 0) (x 1)) rfl fun a => ?_).trans ?_
    · match a with
      | ⟨0, _⟩ => show k % 10 = k + 0; omega
      | ⟨1, _⟩ => exact (Nat.zero_add _).symm
      | ⟨2, _⟩ => exact (Nat.zero_add _).symm
    · exact (shapeCast_ab_1ab_apply _ _ (0 : Fin 1) (x 0) (x 1)).trans (congrArg (R k) (eq_ix2 x).symm)
  have miss : ∀ (k : ℕ) (h) (L) (hk : k ≠ j), v.read (Elt Ideal) (v.writes (Elt Ideal) f (piece k h (R k) :: L))
      (ix3 (⟨j % 10, Nat.mod_lt _ (by decide)⟩ : Fin 10) (x 0) (x 1)) = v.read (Elt Ideal) (v.writes (Elt Ideal) f L)
      (ix3 (⟨j % 10, Nat.mod_lt _ (by decide)⟩ : Fin 10) (x 0) (x 1)) := fun k h L hk =>
    View.read_writes_cons_unit_of_not_mem v f h _ L _ rfl (0 : Fin 3) (by show j % 10 < k ∨ k + 1 ≤ j % 10; omega)
  have go : ∀ (k : ℕ) (h) (L), (k ≠ j → v.read (Elt Ideal) (v.writes (Elt Ideal) f L)
      (ix3 (⟨j % 10, Nat.mod_lt _ (by decide)⟩ : Fin 10) (x 0) (x 1)) = R j x) → v.read (Elt Ideal) (v.writes (Elt Ideal) f (piece k h (R k) :: L))
      (ix3 (⟨j % 10, Nat.mod_lt _ (by decide)⟩ : Fin 10) (x 0) (x 1)) = R j x := fun k h L hL => by
    by_cases hk : k = j
    · exact hit k h L hk
    · exact (miss k h L hk).trans (hL hk)
  show v.read (Elt Ideal) (v.writes (Elt Ideal) f (lst R)) (ix3 (⟨j % 10, Nat.mod_lt _ (by decide)⟩ : Fin 10) (x 0) (x 1)) = R j x
  unfold lst
  refine go 9 _ _ fun h9 => go 8 _ _ fun h8 => go 7 _ _ fun h7 => go 6 _ _ fun h6 => go 5 _ _ fun h5 => go 4 _ _ fun h4 => go 3 _ _ fun h3 =>
    go 2 _ _ fun h2 => go 1 _ _ fun h1 => go 0 _ _ fun h0 => absurd hj (by omega)

end Cert.Proof.Kernel

end
-- ==== Proof.Scores.lean ====
/-
  A block's scores at the ideal values: the products of the anchor's row with the table's rows, and the ids beside them.
-/
module

public import proofs.«01_k».proof.Proof.Slots
public import proofs.«01_k».proof.Proof.Table
public import Idealize.ShloMosaic.Lib.MatmulPlain
public import Idealize.ShloMosaic.Lib.ValueLayout

@[expose] public section

noncomputable section

namespace Cert.Proof.Kernel

open Cert.Kernel Cert.Kernel.Gen

open Idealize.ShloMosaic Idealize.ShloMosaic.ValueIdx
open Idealize.ShloMosaic.TcCoe Idealize.ShloMosaic.Tactic

/-- Row `a` of the table. -/
def rowOf (a : ℕ) (k : Fin 64) : S1000000x64.Idx := ix2 (⟨a % 1000000, Nat.mod_lt _ (by decide)⟩ : Fin 1000000) k

/-- The score of id `a` against the anchor `n`. -/
def score (T : S1000000x64.Idx → EReal) (n a : ℕ) : EReal := ∑ k : Fin 64, T (rowOf n k) * T (rowOf a k)

/-- A block's products. -/
theorem pay50_at (v3 : Vec Ideal S1x1x64 .f32) (v5 : Vec Ideal S8192x64 .f32) (a : Fin 64) (b : Fin 128) (r : Fin 8192) (hr : r.val = a.val * 128 + b.val) :
    k0_pay50 v3 v5 (ix3 (0 : Fin 1) a b) = ∑ k : Fin 64, v3 (ix3 (0 : Fin 1) (0 : Fin 1) k) * v5 (ix2 r k) := by
  unfold k0_pay50
  refine (shapeCast_apply _ _ (ix3 (0 : Fin 1) a b) (ix2 (0 : Fin 1) r) ?_).trans ?_
  · rw [Shape.rowMajor_val_two, Shape.rowMajor_val_three]
    show 0 * 8192 + r.val = (0 * 64 + a.val) * 128 + b.val
    omega
  · refine (Ideal.matmul_transposedRhs_apply (M := 1) (K := 64) (N := 8192) none _ _ _ (0 : Fin 1) r).trans ?_
    refine (congrArg (· + _) (show Ideal.ofBits .f32 0#32 = 0 by simp [Ideal.ofBits, Ideal.ieee])).trans ((zero_add _).trans ?_)
    refine Finset.sum_congr rfl fun k _ => congrArg₂ (· * ·) ?_ rfl
    exact shapeCast_1ab_ab_apply v3 shapeCasts_S1x1x64_S1x64 (0 : Fin 1) k

/-- The block point `t` is at. -/
theorem coords_val (t : Fin grid0.N) : (grid0.coords t 0).val = t.val := by
  have h : t.val < 123 := t.isLt.trans_eq N_0
  show t.val / 1 % 123 = t.val
  rw [Nat.div_one, Nat.mod_eq_of_lt h]

/-- The ids of block `i`. -/
theorem pay51_at (i : grid0.Coords) (y : S1x64x128.Idx) : (k0_pay51 i y).toNat = (i 0).val * 8192 + (y 1).val * 128 + (y 2).val := by
  have h0 : (i 0).val < 123 := (i 0).isLt
  have h1 : (y 1).val < 64 := (y 1).isLt
  have h2 : (y 2).val < 128 := (y 2).isLt
  have e : k0_pay51 i y = (BitVec.ofNat 32 (i 0).val * 8192#32 + BitVec.ofNat 32 (0 * 64 + (y 1).val) * 128#32) + BitVec.ofNat 32 (0 * 128 + (y 2).val) := rfl
  rw [e]
  simp only [BitVec.toNat_add, BitVec.toNat_mul, BitVec.toNat_ofNat]
  omega

theorem slt_million (a : BitVec 32) (h : a.toNat < 2000000) : IntOp.cmpi .slt a 1000000#32 = 1#1 ↔ a.toNat < 1000000 := by
  show BitVec.ofBool (a.slt 1000000#32) = 1#1 ↔ _
  have e : a.slt 1000000#32 = true ↔ a.toNat < 1000000 := by
    rw [BitVec.slt_iff_toInt_lt, show (1000000#32).toInt = 1000000 from rfl]
    have := BitVec.toInt_eq_toNat_cond a
    split at this <;> omega
  rw [← e]
  cases a.slt 1000000#32 <;> simp

section Staged

variable (m : (ℓ : Loc nD τ sig) → Buf (Elt Ideal) ℓ) (hok : ok0 (tbl m))

/-- The table. -/
abbrev tab : S1000000x64.Idx → EReal := m ((c₀ : Thread nD τ).loc main_arg1)
/-- The anchor's id. -/
abbrev aid : ℕ := (anchor (m ((c₀ : Thread nD τ).loc main_arg0))).toNat

theorem stg0_at (ha : aid m < 1000000) (t : Fin (cfg m hok).N) (d) (k : Fin 64) :
    stg0 m hok c₀ t d (ix3 (0 : Fin 1) (0 : Fin 1) k) = tab m (rowOf (aid m) k) := by
  have e : cc0_transform_0 inb_S1_S1_0 numel1_S1 (tbl m) (grid0.coords t) = ![aid m, 0, 0] := by
    have := congrFun (tbl_eq m) ((Rect.unit (s := S1) ![0] S1.size inb_S1_S1_0).emb (Shape.Idx.first (numel1_S1.symm ▸ Nat.one_pos)))
    exact congrArg (fun v : BitVec 32 => ![v.toNat, 0, 0]) this
  have hv : V1 m c₀ main_v3 = shapeCast S1000000x1x64 (tab m) shapeCasts_S1000000x64_S1000000x1x64 := rfl
  show V1 m c₀ main_v3 ((((cfg m hok).win 0).blk t).view.emb (ix3 (0 : Fin 1) (0 : Fin 1) k)) = _
  rw [hv]
  refine shapeCast_apply _ _ _ _ ?_
  refine (Shape.rowMajor_val_two _).trans (Eq.trans ?_ (Shape.rowMajor_val_three _).symm)
  have e0 := congrFun e 0
  have e1 := congrFun e 1
  have e2 := congrFun e 2
  show (aid m % 1000000) * 64 + k.val = ((cc0_transform_0 inb_S1_S1_0 numel1_S1 (tbl m) (grid0.coords t) 0 * 1 + 1 * 0) * 1
    + (cc0_transform_0 inb_S1_S1_0 numel1_S1 (tbl m) (grid0.coords t) 1 * 1 + 1 * 0)) * 64
    + (cc0_transform_0 inb_S1_S1_0 numel1_S1 (tbl m) (grid0.coords t) 2 * 64 + 1 * k.val)
  rw [e0, e1, e2, Nat.mod_eq_of_lt ha]
  show aid m * 64 + k.val = ((aid m * 1 + 1 * 0) * 1 + (0 * 1 + 1 * 0)) * 64 + (0 * 64 + 1 * k.val)
  omega

theorem stg1_at (t : Fin (cfg m hok).N) (d) (r : Fin 8192) (k : Fin 64) (hr : t.val * 8192 + r.val < 1000000) :
    stg1 m hok c₀ t d (ix2 r k) = tab m (rowOf (t.val * 8192 + r.val) k) := by
  have ht : t.val < 123 := t.isLt.trans_eq (N_cfg m hok)
  have e : cc0_transform_1 (grid0.coords t) = ![t.val, 0] := by
    show ![(BitVec.ofNat 32 (grid0.coords t 0).val).toNat, 0] = _
    rw [coords_val t, BitVec.toNat_ofNat, Nat.mod_eq_of_lt (by omega)]
  have e0 := congrFun e 0
  have e1 := congrFun e 1
  have hm : ((cfg m hok).win 1).moved ((cfg m hok).grid.coords t) (ix2 r k) = true := by
    refine (Pipeline.Window.moved_iff _ _ _).mpr fun a => ?_
    match a with
    | ⟨0, _⟩ =>
      show r.val < (Pipeline.Clip.of (cc0_transform_1 (grid0.coords t) 0) 8192 1000000).extent 8192
      rw [e0]
      show r.val < (Pipeline.Clip.of t.val 8192 1000000).extent 8192
      unfold Pipeline.Clip.of
      split
      · exact r.isLt
      · show r.val < 1000000 - t.val * 8192
        omega
    | ⟨1, _⟩ =>
      show k.val < (Pipeline.Clip.of (cc0_transform_1 (grid0.coords t) 1) 64 64).extent 64
      rw [e1]
      exact k.isLt
  show ((cfg m hok).win 1).fill ((cfg m hok).grid.coords t) d _ (ix2 r k) = _
  unfold Pipeline.Window.fill
  rw [dif_pos hm]
  have hv : V1 m c₀ main_arg1 = tab m := rfl
  refine (congrArg (tab m) (funext fun a => Fin.ext ?_ : (((cfg m hok).win 1).blk t).view.emb _ = rowOf (t.val * 8192 + r.val) k))
  match a with
  | ⟨0, _⟩ =>
    show cc0_transform_1 (grid0.coords t) 0 * 8192 + 1 * r.val = (t.val * 8192 + r.val) % 1000000
    rw [e0, Nat.mod_eq_of_lt hr]
    show t.val * 8192 + 1 * r.val = _
    omega
  | ⟨1, _⟩ =>
    show cc0_transform_1 (grid0.coords t) 1 * 64 + 1 * k.val = k.val
    rw [e1]
    show 0 * 64 + 1 * k.val = k.val
    omega

/-- A block's product at a valid position is the id's score. -/
theorem block_score (ha : aid m < 1000000) (t : Fin (cfg m hok).N) (d0 d1) (y : S1x64x128.Idx)
    (hy : (k0_pay51 (grid0.coords t) y).toNat < 1000000) :
    k0_pay50 (F := Ideal) (stg0 m hok c₀ t d0) (stg1 m hok c₀ t d1) y = score (tab m) (aid m) (k0_pay51 (grid0.coords t) y).toNat := by
  have hid := pay51_at (grid0.coords t) y
  rw [coords_val t] at hid
  have h1 : (y 1).val < 64 := (y 1).isLt
  have h2 : (y 2).val < 128 := (y 2).isLt
  have ey : y = ix3 (0 : Fin 1) (y 1) (y 2) :=
    (eq_ix3 y).trans (congrArg (fun z => ix3 z (y 1) (y 2)) (Subsingleton.elim (α := Fin 1) _ _))
  have hp := pay50_at (stg0 m hok c₀ t d0) (stg1 m hok c₀ t d1) (y 1) (y 2) ⟨(y 1).val * 128 + (y 2).val, by omega⟩ rfl
  refine ((congrArg _ ey).trans hp).trans ?_
  refine Finset.sum_congr rfl fun k _ => congrArg₂ (· * ·) (stg0_at m hok ha t d0 k) ?_
  refine (stg1_at m hok t d1 ⟨(y 1).val * 128 + (y 2).val, by omega⟩ k (by show t.val * 8192 + ((y 1).val * 128 + (y 2).val) < _; omega)).trans ?_
  refine congrArg (fun n => tab m (rowOf n k)) ?_
  show t.val * 8192 + ((y 1).val * 128 + (y 2).val) = _
  omega

end Staged

end Cert.Proof.Kernel

end
-- ==== Proof.Taken.lean ====
/-
  The reference's scores: the anchor's row, and its products with the rows of the table.
-/
module

public import proofs.«01_k».proof.Proof.Scores
public import proofs.«01_k».proof.Proof.Gen.ReferenceIdeal
public import Idealize.ShloMosaic.Lib.StackMember
public import Idealize.ShloMosaic.Lib.ReduceAll

@[expose] public section

noncomputable section

namespace Cert.Proof.Kernel

open Cert.Kernel Cert.Kernel.Gen
open Idealize.ShloMosaic Idealize.ShloMosaic.ValueIdx

section Gather
variable {α : Type}

/-- The dimensions of a gather of one row of a matrix. -/
abbrev oneRow (N C : ℕ) (wf : GatherDims.WF ⟨2, ![N, C]⟩ ⟨1, ![1]⟩ ⟨1, ![C]⟩ [0] [0] [] [0] [] 0 ![1, C]) :
    GatherDims ⟨2, ![N, C]⟩ ⟨1, ![1]⟩ ⟨1, ![C]⟩ where
  offsetDims := [0]
  collapsedSliceDims := [0]
  operandBatchingDims := []
  startIndicesBatchingDims := []
  startIndexMap := [0]
  indexVectorDim := 0
  sliceSizes := ![1, C]
  wf := wf

/-- The one row gathered, the row's id in range. -/
theorem oneRow_at {N C : ℕ} (wf) (x : (⟨2, ![N, C]⟩ : Shape).Idx → α) (idx : IVec ⟨1, ![1]⟩ 32) (v : BitVec 32) (hv : idx = fun _ => v)
    (r : Fin N) (hr : v.toInt.toNat = r.val) (k : Fin C) :
    Host.gather (oneRow N C wf) x idx (ix1 k) = x (ix2 r k) := by
  subst hv
  unfold Host.gather
  refine congrArg x (funext fun a => Fin.ext ?_)
  show (oneRow N C wf).start (ix1 k) (fun _ => v) a + (oneRow N C wf).batchCoord (ix1 k) a + (oneRow N C wf).offCoord (ix1 k) a = _
  rw [GatherDims.batchCoord_eq_zero _ _ _ List.not_mem_nil]
  have e : a = (0 : Fin 2) ∨ a = (1 : Fin 2) := match a with
    | ⟨0, _⟩ => .inl rfl
    | ⟨1, _⟩ => .inr rfl
  have ne : (1 : Fin 2) ≠ 0 := by decide
  rcases e with rfl | rfl
  · rw [GatherDims.offCoord_eq_zero _ _ _ (fun h => ((GatherDims.mem_sKept _ _).mp h).1 (List.mem_singleton.mpr rfl))]
    unfold GatherDims.start
    rw [dif_pos (show (0 : Fin 2) ∈ (oneRow N C wf).startIndexMap from List.mem_singleton.mpr rfl)]
    show min v.toInt.toNat (N - 1) + 0 + 0 = r.val
    have := r.isLt
    omega
  · unfold GatherDims.start
    rw [dif_neg (show ¬ (1 : Fin 2) ∈ (oneRow N C wf).startIndexMap from fun h => ne (List.mem_singleton.mp h))]
    unfold GatherDims.offCoord
    rw [dif_pos (show (1 : Fin 2) ∈ (oneRow N C wf).sKept from (GatherDims.mem_sKept _ _).mpr
      ⟨fun h => ne (List.mem_singleton.mp h), List.not_mem_nil⟩)]
    exact (Nat.zero_add _).trans rfl

end Gather

theorem toInt_small (v : BitVec 32) (h : v.toNat < 1000000) : v.toInt = v.toNat := by
  rw [BitVec.toInt_eq_toNat_cond, if_pos (by omega)]

theorem sge_zero (v : BitVec 32) (h : v.toNat < 1000000) : IntOp.cmpi .sge v 0#32 = 1#1 := by
  have : (0#32).sle v = true := by rw [BitVec.sle_eq_decide, toInt_small v h]; simp
  show BitVec.ofBool ((0#32).sle v) = 1#1
  rw [this]; rfl

theorem sle_last (v : BitVec 32) (h : v.toNat < 1000000) : IntOp.cmpi .sle v 999999#32 = 1#1 := by
  have : v.sle 999999#32 = true := by
    rw [BitVec.sle_eq_decide, toInt_small v h, decide_eq_true_eq, show (999999#32).toInt = 999999 from by decide]; omega
  show BitVec.ofBool (v.sle 999999#32) = 1#1
  rw [this]; rfl

theorem slt_zero (v : BitVec 32) (h : v.toNat < 1000000) : IntOp.cmpi .slt v 0#32 = 0#1 := by
  have : v.slt 0#32 = false := by
    rw [BitVec.slt_eq_decide, toInt_small v h, decide_eq_false_iff_not, show (0#32).toInt = 0 from by decide]; omega
  show BitVec.ofBool (v.slt 0#32) = 0#1
  rw [this]; rfl

theorem select_of_one {s : Shape} {α : Type} (c : IVec s 1) (x y : s.Idx → α) (j : s.Idx) (h : c j = 1#1) : select c x y j = x j :=
  if_pos h

/-- The reference's read of the anchor's row. -/
theorem take_at (T : FVec Ideal S1000000x64 .f32) (a : IVec Cert.Kernel.S_ 32) (v : BitVec 32) (ha : a = fun _ => v) (h : v.toNat < 1000000) (k : Fin 64) :
    Cert.Pre_scores_apart.fn_take (F := Ideal) T a (ix1 k) = T (rowOf v.toNat k) := by
  subst ha
  have h2 : Cert.Pre_scores_apart.fn_where (F := Ideal) (cmpi .slt (fun _ => v) (constantI Cert.Pre_scores_apart.S_ 32 0#32)) (addi (fun _ => v) (constantI Cert.Pre_scores_apart.S_ 32 1000000#32)) (fun _ => v)
      = fun _ => v := by
    funext j
    show (if IntOp.cmpi .slt v 0#32 = 1#1 then _ else v) = v
    rw [slt_zero v h]; rfl
  unfold Cert.Pre_scores_apart.fn_take
  dsimp only
  rw [h2]
  refine (select_of_one _ _ _ _ ?_).trans ?_
  · refine Host.reduce_andi_one _ _ _ _ _ rfl fun i => ?_
    show IntOp.andi (IntOp.cmpi .sge v 0#32) (IntOp.cmpi .sle v 999999#32) = 1#1
    rw [sge_zero v h, sle_last v h]; rfl
  · refine oneRow_at _ T _ v rfl ⟨v.toNat % 1000000, Nat.mod_lt _ (by decide)⟩ ?_ k
    rw [toInt_small v h, Int.toNat_natCast]
    exact (Nat.mod_eq_of_lt h).symm

end Cert.Proof.Kernel

end
-- ==== Proof.Sorted.lean ====
/-
  The top-k of a row at the ideal values: the ids it gives are the row's best in order once the best values are apart.
-/
module

public import proofs.«01_k».proof.Proof.Best
public import Idealize.ShloMosaic.Lib.SortFacts
public import Idealize.ShloMosaic.Lib.ValueLayout
public import Idealize.ShloMosaic.PureOps.Ideal.Laws

@[expose] public section

noncomputable section

namespace Cert.Proof.Sorted

open Idealize.ShloMosaic Idealize.ShloMosaic.ValueIdx

variable {n K : ℕ}

/-- The shape of one row. -/
abbrev Row (n : ℕ) : Shape := ⟨2, ![1, n]⟩

theorem along_eq (j : (Row n).Idx) (k : Fin n) : Shape.Idx.along j (1 : Fin 2) k = ix2 (0 : Fin 1) k := by
  funext a
  match a with
  | ⟨0, _⟩ => exact Subsingleton.elim (α := Fin 1) _ _
  | ⟨1, _⟩ => exact Function.update_self (1 : Fin 2) k j

/-- The positions of a row, the best first. -/
def pos (X : (Row n).Idx → EReal) : Fin n → Fin n :=
  sortedFrom fun k k' => (FloatOps.cmpfTotal (F := Ideal) (φ := .f32) .gt (X (ix2 (0 : Fin 1) k)) (X (ix2 (0 : Fin 1) k'))) == 1#1

theorem sort2_at (X : FVec Ideal (Row n) .f32) (Y : IVec (Row n) 32) :
    Host.sort2 (Row n) 1 (fun l r => FloatOps.cmpfTotal .gt l.1 r.1) X Y
      = (fun j => X (ix2 (0 : Fin 1) (pos X (j 1))), fun j => Y (ix2 (0 : Fin 1) (pos X (j 1)))) := by
  have hd : 1 < (Row n).rank := Nat.one_lt_two
  have e : ∀ j : (Row n).Idx, sortedFrom (fun k k' : Fin n => FloatOps.cmpfTotal (F := Ideal) (φ := .f32) .gt (X (j.along (1 : Fin 2) k)) (X (j.along (1 : Fin 2) k')) == 1#1) (j 1)
      = pos X (j 1) := fun j => by
    unfold pos
    refine congrArg (fun f => sortedFrom f (j 1)) (funext fun k => funext fun k' => ?_)
    rw [along_eq, along_eq]
  unfold Host.sort2
  rw [dif_pos hd]
  refine Prod.ext (funext fun j => ?_) (funext fun j => ?_)
  · exact (congrArg (fun k => X (j.along (1 : Fin 2) k)) (e j)).trans (congrArg X (along_eq j _))
  · exact (congrArg (fun k => Y (j.along (1 : Fin 2) k)) (e j)).trans (congrArg Y (along_eq j _))

theorem topK_at (X : FVec Ideal (Row n) .f32) (h : (Row n).Slices (fun _ => 0) (Row K)) (i : Fin K) (hi : i.val < n) :
    (Host.topK (Row K) 1 (FloatOps.cmpfTotal .gt) X h).1 (ix2 (0 : Fin 1) i) = X (ix2 (0 : Fin 1) (pos X ⟨i.val, hi⟩))
    ∧ (Host.topK (Row K) 1 (FloatOps.cmpfTotal .gt) X h).2 (ix2 (0 : Fin 1) i) = BitVec.ofNat 32 (pos X ⟨i.val, hi⟩).val := by
  unfold Host.topK
  have s := sort2_at X fun i => if hd : 1 < (Row n).rank then iotaInDim (Row n) 32 ⟨1, hd⟩ i else 0#32
  have p : ∀ h', (⟨0 + i.val, h'⟩ : Fin n) = ⟨i.val, hi⟩ := fun _ => Fin.ext (Nat.zero_add _)
  constructor
  · refine (congrFun (congrArg (fun z => extractStridedSlice (Row K) (fun _ => 0) z.1 h) s) _).trans ?_
    exact congrArg (fun q => X (ix2 (0 : Fin 1) (pos X q))) (p _)
  · refine (congrFun (congrArg (fun z => extractStridedSlice (Row K) (fun _ => 0) z.2 h) s) _).trans ?_
    exact congrArg (fun q => BitVec.ofNat 32 (pos X q).val) (p _)

theorem gt_one (a b : EReal) : FloatOps.cmpfTotal (F := Ideal) (φ := .f32) .gt a b = 1#1 ↔ b < a := by
  show BitVec.ofBool (decide (b < a)) = 1#1 ↔ _
  by_cases h : b < a <;> simp [h]

/-- A position after another has no better value. -/
theorem pos_le (X : (Row n).Idx → EReal) (i j : Fin n) (hij : i < j) : X (ix2 (0 : Fin 1) (pos X j)) ≤ X (ix2 (0 : Fin 1) (pos X i)) := by
  have b : ∀ k k' : Fin n, ((FloatOps.cmpfTotal (F := Ideal) (φ := .f32) .gt (X (ix2 (0 : Fin 1) k)) (X (ix2 (0 : Fin 1) k'))) == 1#1) = true
      ↔ X (ix2 (0 : Fin 1) k') < X (ix2 (0 : Fin 1) k) := fun k k' => by rw [beq_iff_eq]; exact gt_one _ _
  have h := sortedFrom_noInversion (fun k k' => (FloatOps.cmpfTotal (F := Ideal) (φ := .f32) .gt (X (ix2 (0 : Fin 1) k)) (X (ix2 (0 : Fin 1) k'))) == 1#1) _
    (fun a c e => Bool.eq_false_iff.mpr fun e' => lt_asymm ((b _ _).mp e) ((b _ _).mp e')) (fun _ _ e => e)
    (fun a c d e e' => Bool.eq_false_iff.mpr fun e'' => by
      have h1 := not_lt.mp fun x => Bool.eq_false_iff.mp e ((b _ _).mpr x)
      have h2 := not_lt.mp fun x => Bool.eq_false_iff.mp e' ((b _ _).mpr x)
      exact absurd ((b _ _).mp e'') (not_lt.mpr (h1.trans h2))) i j hij
  exact not_lt.mp fun x => Bool.eq_false_iff.mp h ((b _ _).mpr x)

/-- The ids of the row's best. -/
def best (hn : 0 < n) (X : (Row n).Idx → EReal) (k : ℕ) : BitVec 32 := BitVec.ofNat 32 (pos X ⟨k % n, Nat.mod_lt _ hn⟩).val

theorem ranks (hn : 11 ≤ n) (hn' : n < 2 ^ 32) (X : (Row n).Idx → EReal) (S : BitVec 32 → EReal)
    (hX : ∀ a : Fin n, X (ix2 (0 : Fin 1) a) = S (BitVec.ofNat 32 a.val))
    (hlt : ∀ k (h : k < 10), X (ix2 (0 : Fin 1) (pos X ⟨k + 1, by omega⟩)) < X (ix2 (0 : Fin 1) (pos X ⟨k, by omega⟩))) :
    Best.Ranks S (fun a => a.toNat < n) (best (by omega) X) := by
  have tn : ∀ a : Fin n, (BitVec.ofNat 32 a.val).toNat = a.val := fun a => by
    rw [BitVec.toNat_ofNat, Nat.mod_eq_of_lt]; have := a.isLt; omega
  have at' : ∀ k (h : k < n), (⟨k % n, Nat.mod_lt _ (by omega)⟩ : Fin n) = ⟨k, h⟩ := fun k h => Fin.ext (Nat.mod_eq_of_lt h)
  have b : ∀ k (h : k < n), best (by omega) X k = BitVec.ofNat 32 (pos X ⟨k, h⟩).val := fun k h => by unfold best; rw [at' k h]
  refine ⟨fun k hk => ?_, fun k hk i hi e => ?_, fun k hk a ha hne => ?_⟩
  · rw [b k (by omega), tn]; exact Fin.isLt _
  · rw [b k (by omega), b i (by omega)] at e
    have e := congrArg BitVec.toNat e
    rw [tn, tn] at e
    have e := congrArg Fin.val (sortedFrom_injective _ (Fin.ext e))
    exact absurd e (Nat.ne_of_lt hi)
  · obtain ⟨j, hj⟩ := sortedFrom_surjective (fun k k' => (FloatOps.cmpfTotal (F := Ideal) (φ := .f32) .gt (X (ix2 (0 : Fin 1) k)) (X (ix2 (0 : Fin 1) k'))) == 1#1) ⟨a.toNat, ha⟩
    have hj : pos X j = ⟨a.toNat, ha⟩ := hj
    have ea : BitVec.ofNat 32 (pos X j).val = a := by rw [hj]; exact BitVec.ofNat_toNat .. |>.trans (by simp)
    have hkj : k < j.val := by
      by_contra hc
      exact hne j.val (by omega) ((b j.val j.isLt).trans ea)
    have sa : S a = X (ix2 (0 : Fin 1) (pos X j)) := (congrArg S ea).symm.trans (hX _).symm
    rw [b k (by omega), ← hX]
    refine lt_of_le_of_lt (sa.trans_le ?_) (hlt k hk)
    by_cases h1 : k + 1 = j.val
    · exact (congrArg (fun q => X (ix2 (0 : Fin 1) (pos X q))) (Fin.ext h1.symm : j = ⟨k + 1, by omega⟩)).le
    · exact pos_le X ⟨k + 1, by omega⟩ j (Fin.lt_def.mpr (by show k + 1 < j.val; omega))

end Cert.Proof.Sorted

end
-- ==== Proof.Ranked.lean ====
/-
  What the precondition says of the scores, and the reference's ids as the scores' best in order.
-/
module

public import proofs.«01_k».proof.Proof.Taken
public import proofs.«01_k».proof.Proof.Sorted
public import proofs.«01_k».proof.Proof.Extract

@[expose] public section

noncomputable section

namespace Cert.Proof.Kernel

open Cert.Kernel Cert.Kernel.Gen
open Idealize.ShloMosaic Idealize.ShloMosaic.ValueIdx

variable (x : IVec S1024x3 32) (T : FVec Ideal S1000000x64 .f32)

/-- The anchor's row, as the reference reads it. -/
def qrow : FVec Ideal Cert.Pre_scores_apart.S1x64 .f32 :=
  shapeCast Cert.Pre_scores_apart.S1x64 (Cert.Pre_scores_apart.fn_take (F := Ideal) T
    (shapeCast Cert.Pre_scores_apart.S_ (extractStridedSlice Cert.Pre_scores_apart.S1x1 ![1023, 0] x Cert.Pre_scores_apart.Facts.slices_S1024x3_S1x1_1023_0)
      Cert.Pre_scores_apart.Facts.shapeCasts_S1x1_S_)) Cert.Pre_scores_apart.Facts.shapeCasts_S64_S1x64

/-- The products of a row with the rows of the table. -/
def dots (q : FVec Ideal Cert.Pre_scores_apart.S1x64 .f32) : FVec Ideal (Sorted.Row 1000000) .f32 :=
  Host.dotGeneral (φ₁ := .f32) (φ₂ := .f32) Cert.Pre_scores_apart.dot_S1x64_S64x1000000_S1x1000000_1_0_0_1_n_n none q
    (transpose Cert.Pre_scores_apart.S64x1000000 [1, 0] T Cert.Pre_scores_apart.Facts.transposes_S1000000x64_S64x1000000_1_0)

theorem qrow_at (h : (anchor x).toNat < 1000000) (u : Fin 1) (k : Fin 64) : qrow x T (ix2 u k) = T (rowOf (anchor x).toNat k) :=
  (shapeCast_a_1a_apply _ _ u k).trans (take_at T _ (anchor x) (funext fun j => (congrArg (shapeCast S_ (extractStridedSlice S1x1 ![1023, 0] x slices_S1024x3_S1x1_1023_0) shapeCasts_S1x1_S_)
    (funext fun a => Fin.elim0 a : j = fun a => Fin.elim0 a) : _ = anchor x)) h k)

theorem dots_at (q : FVec Ideal Cert.Pre_scores_apart.S1x64 .f32) (a : Fin 1000000) :
    dots T q (ix2 (0 : Fin 1) a) = ∑ k : Fin 64, q (ix2 (0 : Fin 1) k) * T (ix2 a k) := by
  refine (StackMember.dotGeneral_plain_apply (m := 1) (n := 1000000) (k := 64) (φ₁ := .f32) (φ₂ := .f32) none q _ 0 a).trans ?_
  exact Finset.sum_congr rfl fun k _ => congrArg (q (ix2 (0 : Fin 1) k) * ·) (transpose_ix2_apply T _ k a)

theorem rowOf_fin (a : Fin 1000000) (k : Fin 64) : rowOf a.val k = ix2 a k :=
  congrArg (fun r => ix2 r k) (Fin.ext (Nat.mod_eq_of_lt a.isLt))

theorem up_at (h : (anchor x).toNat < 1000000) (a : Fin 1000000) :
    dots T (qrow x T) (ix2 (0 : Fin 1) a) = score T (anchor x).toNat a.val := by
  refine (dots_at T _ a).trans (Finset.sum_congr rfl fun k _ => ?_)
  exact congrArg₂ (· * ·) (qrow_at x T h 0 k) (congrArg T (rowOf_fin a k).symm)

/-- Sums of real values are real, and a sum of negated ones is the sum negated. -/
theorem sum_coe {n : ℕ} (f : Fin n → ℝ) : ∑ k, ((f k : ℝ) : EReal) = ((∑ k, f k : ℝ) : EReal) :=
  (map_sum (⟨⟨Real.toEReal, EReal.coe_zero⟩, EReal.coe_add⟩ : ℝ →+ EReal) f _).symm

variable (hT : ∀ i, ∃ r : ℝ, T i = r)
include hT

theorem score_real (n a : ℕ) : ∃ r : ℝ, score T n a = r ∧ ∑ k : Fin 64, (-T (rowOf n k)) * T (rowOf a k) = ((-r : ℝ) : EReal) := by
  choose r hr using hT
  refine ⟨∑ k, r (rowOf n k) * r (rowOf a k), ?_, ?_⟩
  · unfold score
    rw [← sum_coe]
    exact Finset.sum_congr rfl fun k _ => by rw [hr, hr, EReal.coe_mul]
  · rw [← Finset.sum_neg_distrib, ← sum_coe]
    exact Finset.sum_congr rfl fun k _ => by rw [hr, hr, EReal.coe_neg, EReal.coe_mul, EReal.neg_mul]

theorem dn_at (h : (anchor x).toNat < 1000000) (a : Fin 1000000) :
    dots T (Host.negf (qrow x T)) (ix2 (0 : Fin 1) a) = -score T (anchor x).toNat a.val := by
  obtain ⟨r, h1, h2⟩ := score_real T hT (anchor x).toNat a.val
  refine (dots_at T _ a).trans ((Finset.sum_congr rfl fun k _ => ?_ : _ = ∑ k : Fin 64, (-T (rowOf (anchor x).toNat k)) * T (rowOf a.val k)).trans ?_)
  · exact congrArg₂ (· * ·) (congrArg (fun v : EReal => -v) (qrow_at x T h 0 k)) (congrArg T (rowOf_fin a k).symm)
  · rw [h2, h1, EReal.coe_neg]

omit hT

/-- One direction's test of the precondition. -/
theorem apart (X : FVec Ideal (Sorted.Row 1000000) .f32)
    (e : Host.reduce IntOp.andi (cmpf .ogt
        (shapeCast Cert.Pre_scores_apart.S10 (extractStridedSlice Cert.Pre_scores_apart.S1x10 ![0, 0] (Host.topK Cert.Pre_scores_apart.S1x11 1 (FloatOps.cmpfTotal (F := Ideal) (φ := .f32) .gt) X Cert.Pre_scores_apart.Facts.sliceFits_S1x1000000_S1x11).1 Cert.Pre_scores_apart.Facts.slices_S1x11_S1x10_0_0) Cert.Pre_scores_apart.Facts.shapeCasts_S1x10_S10)
        (shapeCast Cert.Pre_scores_apart.S10 (extractStridedSlice Cert.Pre_scores_apart.S1x10 ![0, 1] (Host.topK Cert.Pre_scores_apart.S1x11 1 (FloatOps.cmpfTotal (F := Ideal) (φ := .f32) .gt) X Cert.Pre_scores_apart.Facts.sliceFits_S1x1000000_S1x11).1 Cert.Pre_scores_apart.Facts.slices_S1x11_S1x10_0_1) Cert.Pre_scores_apart.Facts.shapeCasts_S1x10_S10))
      (constantI Cert.Pre_scores_apart.S_ 1 1#1) Cert.Pre_scores_apart.Facts.reducesTo_S10_S_d0 Cert.Pre_scores_apart.Facts.h_S_ (fun a => a.elim0) = 1#1)
    (k : ℕ) (hk : k < 10) : X (ix2 (0 : Fin 1) (Sorted.pos X ⟨k + 1, by omega⟩)) < X (ix2 (0 : Fin 1) (Sorted.pos X ⟨k, by omega⟩)) := by
  haveI : Subsingleton Cert.Pre_scores_apart.S_.Idx := ⟨fun _ _ => funext fun a => a.elim0⟩
  have t := Host.reduce_andi_all _ _ _ _ _ e (ix1 (⟨k, hk⟩ : Fin 10))
  have t := (ofBool_one _).mp t
  have g : ∀ (o : ℕ) (ho : o + k < 11) (hs), shapeCast Cert.Pre_scores_apart.S10 (extractStridedSlice Cert.Pre_scores_apart.S1x10 ![0, o] (Host.topK Cert.Pre_scores_apart.S1x11 1 (FloatOps.cmpfTotal (F := Ideal) (φ := .f32) .gt) X Cert.Pre_scores_apart.Facts.sliceFits_S1x1000000_S1x11).1 hs) Cert.Pre_scores_apart.Facts.shapeCasts_S1x10_S10 (ix1 (⟨k, hk⟩ : Fin 10))
      = X (ix2 (0 : Fin 1) (Sorted.pos X ⟨o + k, by omega⟩)) := fun o ho hs => by
    refine (shapeCast_1a_a_apply _ _ _).trans ((extractStridedSlice_apply _ _ _ _ (ix2 (0 : Fin 1) (⟨o + k, ho⟩ : Fin 11)) fun a => ?_).trans
      (Sorted.topK_at X _ ⟨o + k, ho⟩ (by show o + k < 1000000; omega)).1)
    match a with
    | ⟨0, _⟩ => rfl
    | ⟨1, _⟩ => rfl
  have t := (g 1 (by omega) _).symm.trans_lt (t.trans_eq (g 0 (by omega) _))
  have p : ∀ h, (⟨1 + k, h⟩ : Fin 1000000) = ⟨k + 1, by omega⟩ := fun _ => Fin.ext (Nat.add_comm 1 k)
  have q : ∀ h, (⟨0 + k, h⟩ : Fin 1000000) = ⟨k, by omega⟩ := fun _ => Fin.ext (Nat.zero_add k)
  rw [p, q] at t
  exact t

/-- What the precondition says. -/
theorem said (h : Cert.Pre_scores_apart.fn (F := Ideal) x T = fun _ => 1#1) :
    (∀ i, ∃ r : ℝ, T i = r)
    ∧ (∀ k (hk : k < 10), dots T (qrow x T) (ix2 (0 : Fin 1) (Sorted.pos (dots T (qrow x T)) ⟨k + 1, by omega⟩)) < dots T (qrow x T) (ix2 (0 : Fin 1) (Sorted.pos (dots T (qrow x T)) ⟨k, by omega⟩)))
    ∧ (∀ k (hk : k < 10), dots T (Host.negf (qrow x T)) (ix2 (0 : Fin 1) (Sorted.pos (dots T (Host.negf (qrow x T))) ⟨k + 1, by omega⟩)) < dots T (Host.negf (qrow x T)) (ix2 (0 : Fin 1) (Sorted.pos (dots T (Host.negf (qrow x T))) ⟨k, by omega⟩))) := by
  have h := congrFun h (fun a => a.elim0)
  unfold Cert.Pre_scores_apart.fn Cert.Pre_scores_apart.fn_part1 at h
  dsimp only at h
  obtain ⟨hl, hr⟩ := both _ _ h
  obtain ⟨-, hf⟩ := both _ _ hl
  obtain ⟨hu, hd⟩ := both _ _ hr
  haveI : Subsingleton Cert.Pre_scores_apart.S_.Idx := ⟨fun _ _ => funext fun a => a.elim0⟩
  refine ⟨fun i => ?_, apart (dots T (qrow x T)) hu, apart (dots T (Host.negf (qrow x T))) hd⟩
  have t := Host.reduce_andi_all _ _ _ _ _ hf i
  have t : max (T i) (-(T i)) < Ideal.ofBits .f32 0x7F800000#32 := (ofBool_one _).mp t
  rw [bits_top] at t
  have t1 := (max_lt_iff.mp t).1
  have t2 := (max_lt_iff.mp t).2
  refine ⟨(T i).toReal, (EReal.coe_toReal t1.ne fun e => ?_).symm⟩
  rw [e] at t2
  exact absurd t2 (by simp)

end Cert.Proof.Kernel

end
-- ==== Proof.TopFold.lean ====
module

public import proofs.«01_k».proof.Proof.TopVal

@[expose] public section

noncomputable section

namespace Cert.Proof.Kernel

open Cert.Kernel Cert.Kernel.Gen

open Idealize.ShloMosaic Idealize.ShloMosaic.ValueIdx
open Idealize.ShloMosaic.TcCoe Idealize.ShloMosaic.Tactic

variable {F : FTy → Type} [FloatOps F]

variable (c : Dev nD) (i : grid0.Coords) (M2 : Memref sig .tc .vmem S1x1x64 .f32) (M3 : Memref sig .tc .vmem S8192x64 .f32)
  (f2 : Bf (F := F) c M2) (f3 : Bf (F := F) c M3)
  (g0 : Bf (F := F) c s0) (g1 : Bf (F := F) c s1) (g2 : Bf (F := F) c s2) (g3 : Bf (F := F) c s3)

set_option maxHeartbeats 8000000 in
/-- The rows the body writes back are what the eight tiles of its block, carried down one after the other, make of the rows it found. -/
theorem lists_fold :
    topRun.sl.Hs0_10 c i M2 M3 f2 f3 g0 = lst (e := .f32) (RV .ogt (topRun.sl.v21 c i M2 M3 f2 f3) (rowAt (st0 c i g0)) 8)
    ∧ topRun.sl.Hs1_10 c i M2 M3 f2 f3 g0 g1 = lst (e := .i32) (RI .ogt (topRun.sl.v21 c i M2 M3 f2 f3) (k0_pay51 i) (rowAt (st0 c i g0)) (rowAt (st1 c i g1)) 8)
    ∧ topRun.sl.Hs2_10 c i M2 M3 f2 f3 g2 = lst (e := .f32) (RV .olt (topRun.sl.v23 c i M2 M3 f2 f3) (rowAt (st2 c i g2)) 8)
    ∧ topRun.sl.Hs3_10 c i M2 M3 f2 f3 g2 g3 = lst (e := .i32) (RI .olt (topRun.sl.v23 c i M2 M3 f2 f3) (k0_pay51 i) (rowAt (st2 c i g2)) (rowAt (st3 c i g3)) 8) := by
  have a0_0 : topRun.sl.v25 c i g0 = RV .ogt (topRun.sl.v21 c i M2 M3 f2 f3) (rowAt (st0 c i g0)) 0 0 := row_cast (F := F) s0.view (bst0 c i g0) 0 _ _
  have a0_1 : topRun.sl.v27 c i g0 = RV .ogt (topRun.sl.v21 c i M2 M3 f2 f3) (rowAt (st0 c i g0)) 0 1 := row_cast (F := F) s0.view (bst0 c i g0) 1 _ _
  have a0_2 : topRun.sl.v29 c i g0 = RV .ogt (topRun.sl.v21 c i M2 M3 f2 f3) (rowAt (st0 c i g0)) 0 2 := row_cast (F := F) s0.view (bst0 c i g0) 2 _ _
  have a0_3 : topRun.sl.v31 c i g0 = RV .ogt (topRun.sl.v21 c i M2 M3 f2 f3) (rowAt (st0 c i g0)) 0 3 := row_cast (F := F) s0.view (bst0 c i g0) 3 _ _
  have a0_4 : topRun.sl.v33 c i g0 = RV .ogt (topRun.sl.v21 c i M2 M3 f2 f3) (rowAt (st0 c i g0)) 0 4 := row_cast (F := F) s0.view (bst0 c i g0) 4 _ _
  have a0_5 : topRun.sl.v35 c i g0 = RV .ogt (topRun.sl.v21 c i M2 M3 f2 f3) (rowAt (st0 c i g0)) 0 5 := row_cast (F := F) s0.view (bst0 c i g0) 5 _ _
  have a0_6 : topRun.sl.v37 c i g0 = RV .ogt (topRun.sl.v21 c i M2 M3 f2 f3) (rowAt (st0 c i g0)) 0 6 := row_cast (F := F) s0.view (bst0 c i g0) 6 _ _
  have a0_7 : topRun.sl.v39 c i g0 = RV .ogt (topRun.sl.v21 c i M2 M3 f2 f3) (rowAt (st0 c i g0)) 0 7 := row_cast (F := F) s0.view (bst0 c i g0) 7 _ _
  have a0_8 : topRun.sl.v41 c i g0 = RV .ogt (topRun.sl.v21 c i M2 M3 f2 f3) (rowAt (st0 c i g0)) 0 8 := row_cast (F := F) s0.view (bst0 c i g0) 8 _ _
  have a0_9 : topRun.sl.v43 c i g0 = RV .ogt (topRun.sl.v21 c i M2 M3 f2 f3) (rowAt (st0 c i g0)) 0 9 := row_cast (F := F) s0.view (bst0 c i g0) 9 _ _
  have a1_0 : topRun.sl.v45 c i g1 = RI .ogt (topRun.sl.v21 c i M2 M3 f2 f3) (k0_pay51 i) (rowAt (st0 c i g0)) (rowAt (st1 c i g1)) 0 0 := row_cast (F := F) s1.view (bst1 c i g1) 0 _ _
  have a1_1 : topRun.sl.v47 c i g1 = RI .ogt (topRun.sl.v21 c i M2 M3 f2 f3) (k0_pay51 i) (rowAt (st0 c i g0)) (rowAt (st1 c i g1)) 0 1 := row_cast (F := F) s1.view (bst1 c i g1) 1 _ _
  have a1_2 : topRun.sl.v49 c i g1 = RI .ogt (topRun.sl.v21 c i M2 M3 f2 f3) (k0_pay51 i) (rowAt (st0 c i g0)) (rowAt (st1 c i g1)) 0 2 := row_cast (F := F) s1.view (bst1 c i g1) 2 _ _
  have a1_3 : topRun.sl.v51 c i g1 = RI .ogt (topRun.sl.v21 c i M2 M3 f2 f3) (k0_pay51 i) (rowAt (st0 c i g0)) (rowAt (st1 c i g1)) 0 3 := row_cast (F := F) s1.view (bst1 c i g1) 3 _ _
  have a1_4 : topRun.sl.v53 c i g1 = RI .ogt (topRun.sl.v21 c i M2 M3 f2 f3) (k0_pay51 i) (rowAt (st0 c i g0)) (rowAt (st1 c i g1)) 0 4 := row_cast (F := F) s1.view (bst1 c i g1) 4 _ _
  have a1_5 : topRun.sl.v55 c i g1 = RI .ogt (topRun.sl.v21 c i M2 M3 f2 f3) (k0_pay51 i) (rowAt (st0 c i g0)) (rowAt (st1 c i g1)) 0 5 := row_cast (F := F) s1.view (bst1 c i g1) 5 _ _
  have a1_6 : topRun.sl.v57 c i g1 = RI .ogt (topRun.sl.v21 c i M2 M3 f2 f3) (k0_pay51 i) (rowAt (st0 c i g0)) (rowAt (st1 c i g1)) 0 6 := row_cast (F := F) s1.view (bst1 c i g1) 6 _ _
  have a1_7 : topRun.sl.v59 c i g1 = RI .ogt (topRun.sl.v21 c i M2 M3 f2 f3) (k0_pay51 i) (rowAt (st0 c i g0)) (rowAt (st1 c i g1)) 0 7 := row_cast (F := F) s1.view (bst1 c i g1) 7 _ _
  have a1_8 : topRun.sl.v61 c i g1 = RI .ogt (topRun.sl.v21 c i M2 M3 f2 f3) (k0_pay51 i) (rowAt (st0 c i g0)) (rowAt (st1 c i g1)) 0 8 := row_cast (F := F) s1.view (bst1 c i g1) 8 _ _
  have a1_9 : topRun.sl.v63 c i g1 = RI .ogt (topRun.sl.v21 c i M2 M3 f2 f3) (k0_pay51 i) (rowAt (st0 c i g0)) (rowAt (st1 c i g1)) 0 9 := row_cast (F := F) s1.view (bst1 c i g1) 9 _ _
  have a2_0 : topRun.sl.v65 c i g2 = RV .olt (topRun.sl.v23 c i M2 M3 f2 f3) (rowAt (st2 c i g2)) 0 0 := row_cast (F := F) s2.view (bst2 c i g2) 0 _ _
  have a2_1 : topRun.sl.v67 c i g2 = RV .olt (topRun.sl.v23 c i M2 M3 f2 f3) (rowAt (st2 c i g2)) 0 1 := row_cast (F := F) s2.view (bst2 c i g2) 1 _ _
  have a2_2 : topRun.sl.v69 c i g2 = RV .olt (topRun.sl.v23 c i M2 M3 f2 f3) (rowAt (st2 c i g2)) 0 2 := row_cast (F := F) s2.view (bst2 c i g2) 2 _ _
  have a2_3 : topRun.sl.v71 c i g2 = RV .olt (topRun.sl.v23 c i M2 M3 f2 f3) (rowAt (st2 c i g2)) 0 3 := row_cast (F := F) s2.view (bst2 c i g2) 3 _ _
  have a2_4 : topRun.sl.v73 c i g2 = RV .olt (topRun.sl.v23 c i M2 M3 f2 f3) (rowAt (st2 c i g2)) 0 4 := row_cast (F := F) s2.view (bst2 c i g2) 4 _ _
  have a2_5 : topRun.sl.v75 c i g2 = RV .olt (topRun.sl.v23 c i M2 M3 f2 f3) (rowAt (st2 c i g2)) 0 5 := row_cast (F := F) s2.view (bst2 c i g2) 5 _ _
  have a2_6 : topRun.sl.v77 c i g2 = RV .olt (topRun.sl.v23 c i M2 M3 f2 f3) (rowAt (st2 c i g2)) 0 6 := row_cast (F := F) s2.view (bst2 c i g2) 6 _ _
  have a2_7 : topRun.sl.v79 c i g2 = RV .olt (topRun.sl.v23 c i M2 M3 f2 f3) (rowAt (st2 c i g2)) 0 7 := row_cast (F := F) s2.view (bst2 c i g2) 7 _ _
  have a2_8 : topRun.sl.v81 c i g2 = RV .olt (topRun.sl.v23 c i M2 M3 f2 f3) (rowAt (st2 c i g2)) 0 8 := row_cast (F := F) s2.view (bst2 c i g2) 8 _ _
  have a2_9 : topRun.sl.v83 c i g2 = RV .olt (topRun.sl.v23 c i M2 M3 f2 f3) (rowAt (st2 c i g2)) 0 9 := row_cast (F := F) s2.view (bst2 c i g2) 9 _ _
  have a3_0 : topRun.sl.v85 c i g3 = RI .olt (topRun.sl.v23 c i M2 M3 f2 f3) (k0_pay51 i) (rowAt (st2 c i g2)) (rowAt (st3 c i g3)) 0 0 := row_cast (F := F) s3.view (bst3 c i g3) 0 _ _
  have a3_1 : topRun.sl.v87 c i g3 = RI .olt (topRun.sl.v23 c i M2 M3 f2 f3) (k0_pay51 i) (rowAt (st2 c i g2)) (rowAt (st3 c i g3)) 0 1 := row_cast (F := F) s3.view (bst3 c i g3) 1 _ _
  have a3_2 : topRun.sl.v89 c i g3 = RI .olt (topRun.sl.v23 c i M2 M3 f2 f3) (k0_pay51 i) (rowAt (st2 c i g2)) (rowAt (st3 c i g3)) 0 2 := row_cast (F := F) s3.view (bst3 c i g3) 2 _ _
  have a3_3 : topRun.sl.v91 c i g3 = RI .olt (topRun.sl.v23 c i M2 M3 f2 f3) (k0_pay51 i) (rowAt (st2 c i g2)) (rowAt (st3 c i g3)) 0 3 := row_cast (F := F) s3.view (bst3 c i g3) 3 _ _
  have a3_4 : topRun.sl.v93 c i g3 = RI .olt (topRun.sl.v23 c i M2 M3 f2 f3) (k0_pay51 i) (rowAt (st2 c i g2)) (rowAt (st3 c i g3)) 0 4 := row_cast (F := F) s3.view (bst3 c i g3) 4 _ _
  have a3_5 : topRun.sl.v95 c i g3 = RI .olt (topRun.sl.v23 c i M2 M3 f2 f3) (k0_pay51 i) (rowAt (st2 c i g2)) (rowAt (st3 c i g3)) 0 5 := row_cast (F := F) s3.view (bst3 c i g3) 5 _ _
  have a3_6 : topRun.sl.v97 c i g3 = RI .olt (topRun.sl.v23 c i M2 M3 f2 f3) (k0_pay51 i) (rowAt (st2 c i g2)) (rowAt (st3 c i g3)) 0 6 := row_cast (F := F) s3.view (bst3 c i g3) 6 _ _
  have a3_7 : topRun.sl.v99 c i g3 = RI .olt (topRun.sl.v23 c i M2 M3 f2 f3) (k0_pay51 i) (rowAt (st2 c i g2)) (rowAt (st3 c i g3)) 0 7 := row_cast (F := F) s3.view (bst3 c i g3) 7 _ _
  have a3_8 : topRun.sl.v101 c i g3 = RI .olt (topRun.sl.v23 c i M2 M3 f2 f3) (k0_pay51 i) (rowAt (st2 c i g2)) (rowAt (st3 c i g3)) 0 8 := row_cast (F := F) s3.view (bst3 c i g3) 8 _ _
  have a3_9 : topRun.sl.v103 c i g3 = RI .olt (topRun.sl.v23 c i M2 M3 f2 f3) (k0_pay51 i) (rowAt (st2 c i g2)) (rowAt (st3 c i g3)) 0 9 := row_cast (F := F) s3.view (bst3 c i g3) 9 _ _
  have hV : ∀ k, tile k (topRun.sl.v21 c i M2 M3 f2 f3) = CV .ogt (topRun.sl.v21 c i M2 M3 f2 f3) (rowAt (st0 c i g0)) k 0 := fun _ => rfl
  have hN : ∀ k, tile k (topRun.sl.v23 c i M2 M3 f2 f3) = CV .olt (topRun.sl.v23 c i M2 M3 f2 f3) (rowAt (st2 c i g2)) k 0 := fun _ => rfl
  simp only [
    topRun.sl.v104, topRun.sl.v109, topRun.sl.v111, topRun.sl.v114, topRun.sl.v116, topRun.sl.v119, topRun.sl.v121, topRun.sl.v124, topRun.sl.v126,
    topRun.sl.v129, topRun.sl.v131, topRun.sl.v134, topRun.sl.v136, topRun.sl.v139, topRun.sl.v141, topRun.sl.v144, topRun.sl.v146, topRun.sl.v149,
    topRun.sl.v151, topRun.sl.v154, topRun.sl.v155, topRun.sl.v159, topRun.sl.v160, topRun.sl.v161, topRun.sl.v162, topRun.sl.v163, topRun.sl.v164,
    topRun.sl.v166, topRun.sl.v169, topRun.sl.v171, topRun.sl.v174, topRun.sl.v176, topRun.sl.v179, topRun.sl.v181, topRun.sl.v184, topRun.sl.v186,
    topRun.sl.v189, topRun.sl.v191, topRun.sl.v194, topRun.sl.v196, topRun.sl.v199, topRun.sl.v201, topRun.sl.v204, topRun.sl.v205, topRun.sl.v207,
    topRun.sl.v211, topRun.sl.v213, topRun.sl.v216, topRun.sl.v218, topRun.sl.v221, topRun.sl.v222, topRun.sl.v223, topRun.sl.v224, topRun.sl.v226,
    topRun.sl.v228, topRun.sl.v231, topRun.sl.v233, topRun.sl.v236, topRun.sl.v238, topRun.sl.v241, topRun.sl.v243, topRun.sl.v246, topRun.sl.v248,
    topRun.sl.v251, topRun.sl.v253, topRun.sl.v256, topRun.sl.v257, topRun.sl.v261, topRun.sl.v263, topRun.sl.v266, topRun.sl.v268, topRun.sl.v271,
    topRun.sl.v273, topRun.sl.v276, topRun.sl.v278, topRun.sl.v281, topRun.sl.v282, topRun.sl.v283, topRun.sl.v284, topRun.sl.v286, topRun.sl.v288,
    topRun.sl.v291, topRun.sl.v293, topRun.sl.v296, topRun.sl.v298, topRun.sl.v301, topRun.sl.v303, topRun.sl.v306, topRun.sl.v307, topRun.sl.v309,
    topRun.sl.v313, topRun.sl.v315, topRun.sl.v318, topRun.sl.v320, topRun.sl.v323, topRun.sl.v325, topRun.sl.v328, topRun.sl.v330, topRun.sl.v333,
    topRun.sl.v335, topRun.sl.v338, topRun.sl.v340, topRun.sl.v341, topRun.sl.v342, topRun.sl.v343, topRun.sl.v344, topRun.sl.v345, topRun.sl.v348,
    topRun.sl.v350, topRun.sl.v353, topRun.sl.v355, topRun.sl.v358, topRun.sl.v359, topRun.sl.v363, topRun.sl.v365, topRun.sl.v368, topRun.sl.v370,
    topRun.sl.v373, topRun.sl.v375, topRun.sl.v378, topRun.sl.v380, topRun.sl.v383, topRun.sl.v385, topRun.sl.v388, topRun.sl.v390, topRun.sl.v393,
    topRun.sl.v395, topRun.sl.v398, topRun.sl.v400, topRun.sl.v401, topRun.sl.v402, topRun.sl.v403, topRun.sl.v404, topRun.sl.v405, topRun.sl.v408,
    topRun.sl.v409, topRun.sl.v411, topRun.sl.v415, topRun.sl.v417, topRun.sl.v420, topRun.sl.v422, topRun.sl.v425, topRun.sl.v427, topRun.sl.v430,
    topRun.sl.v432, topRun.sl.v435, topRun.sl.v437, topRun.sl.v440, topRun.sl.v442, topRun.sl.v445, topRun.sl.v447, topRun.sl.v450, topRun.sl.v452,
    topRun.sl.v455, topRun.sl.v457, topRun.sl.v460, topRun.sl.v461, topRun.sl.v463, topRun.sl.v464, topRun.sl.v465, topRun.sl.v467, topRun.sl.v470,
    topRun.sl.v472, topRun.sl.v475, topRun.sl.v477, topRun.sl.v480, topRun.sl.v482, topRun.sl.v485, topRun.sl.v487, topRun.sl.v490, topRun.sl.v492,
    topRun.sl.v495, topRun.sl.v497, topRun.sl.v500, topRun.sl.v502, topRun.sl.v505, topRun.sl.v507, topRun.sl.v510, topRun.sl.v511, topRun.sl.v513,
    topRun.sl.v517, topRun.sl.v519, topRun.sl.v520, topRun.sl.v521, topRun.sl.v522, topRun.sl.v523, topRun.sl.v524, topRun.sl.v527, topRun.sl.v529,
    topRun.sl.v532, topRun.sl.v534, topRun.sl.v537, topRun.sl.v539, topRun.sl.v542, topRun.sl.v544, topRun.sl.v547, topRun.sl.v549, topRun.sl.v552,
    topRun.sl.v554, topRun.sl.v557, topRun.sl.v559, topRun.sl.v562, topRun.sl.v563, topRun.sl.v567, topRun.sl.v569, topRun.sl.v572, topRun.sl.v574,
    topRun.sl.v577, topRun.sl.v579, topRun.sl.v580, topRun.sl.v581, topRun.sl.v582, topRun.sl.v583, topRun.sl.v584, topRun.sl.v587, topRun.sl.v589,
    topRun.sl.v592, topRun.sl.v594, topRun.sl.v597, topRun.sl.v599, topRun.sl.v602, topRun.sl.v604, topRun.sl.v607, topRun.sl.v609, topRun.sl.v612,
    topRun.sl.v613, topRun.sl.v615, topRun.sl.v619, topRun.sl.v621, topRun.sl.v624, topRun.sl.v626, topRun.sl.v629, topRun.sl.v631, topRun.sl.v634,
    topRun.sl.v636, topRun.sl.v639, topRun.sl.v640, topRun.sl.v641, topRun.sl.v642, topRun.sl.v643, topRun.sl.v644, topRun.sl.v646, topRun.sl.v649,
    topRun.sl.v651, topRun.sl.v654, topRun.sl.v656, topRun.sl.v659, topRun.sl.v661, topRun.sl.v664, topRun.sl.v665, topRun.sl.v669, topRun.sl.v671,
    topRun.sl.v674, topRun.sl.v676, topRun.sl.v679, topRun.sl.v681, topRun.sl.v684, topRun.sl.v686, topRun.sl.v689, topRun.sl.v691, topRun.sl.v694,
    topRun.sl.v696, topRun.sl.v699, topRun.sl.v700, topRun.sl.v701, topRun.sl.v702, topRun.sl.v703, topRun.sl.v704, topRun.sl.v706, topRun.sl.v709,
    topRun.sl.v711, topRun.sl.v714, topRun.sl.v715, topRun.sl.v717, topRun.sl.v721, topRun.sl.v723, topRun.sl.v726, topRun.sl.v728, topRun.sl.v731,
    topRun.sl.v733, topRun.sl.v736, topRun.sl.v738, topRun.sl.v741, topRun.sl.v743, topRun.sl.v746, topRun.sl.v748, topRun.sl.v751, topRun.sl.v753,
    topRun.sl.v756, topRun.sl.v758, topRun.sl.v761, topRun.sl.v762, topRun.sl.v763, topRun.sl.v764, topRun.sl.v766, topRun.sl.v767, topRun.sl.v771,
    topRun.sl.v773, topRun.sl.v776, topRun.sl.v778, topRun.sl.v781, topRun.sl.v783, topRun.sl.v786, topRun.sl.v788, topRun.sl.v791, topRun.sl.v793,
    topRun.sl.v796, topRun.sl.v798, topRun.sl.v801, topRun.sl.v803, topRun.sl.v806, topRun.sl.v808, topRun.sl.v811, topRun.sl.v813, topRun.sl.v816,
    topRun.sl.v817, topRun.sl.v819, topRun.sl.v822, topRun.sl.v823, topRun.sl.v824, topRun.sl.v825, topRun.sl.v828, topRun.sl.v830, topRun.sl.v833,
    topRun.sl.v835, topRun.sl.v838, topRun.sl.v840, topRun.sl.v843, topRun.sl.v845, topRun.sl.v848, topRun.sl.v850, topRun.sl.v853, topRun.sl.v855,
    topRun.sl.v858, topRun.sl.v860, topRun.sl.v863, topRun.sl.v865, topRun.sl.v868, topRun.sl.v869, topRun.sl.v873, topRun.sl.v875, topRun.sl.v878,
    topRun.sl.v880, topRun.sl.v881, topRun.sl.v882, topRun.sl.v883, topRun.sl.v884, topRun.sl.v885, topRun.sl.v888, topRun.sl.v890, topRun.sl.v893,
    topRun.sl.v895, topRun.sl.v898, topRun.sl.v900, topRun.sl.v903, topRun.sl.v905, topRun.sl.v908, topRun.sl.v910, topRun.sl.v913, topRun.sl.v915,
    topRun.sl.v918, topRun.sl.v919, topRun.sl.v929, topRun.sl.v930, topRun.sl.v931, topRun.sl.v932, topRun.sl.v933, topRun.sl.v934, topRun.sl.v937,
    topRun.sl.v940, topRun.sl.v943, topRun.sl.v944, topRun.sl.v945, topRun.sl.v946, topRun.sl.v949, topRun.sl.v952, topRun.sl.v955, topRun.sl.v956,
    topRun.sl.v957, topRun.sl.v958, topRun.sl.v961, topRun.sl.v964, topRun.sl.v967, topRun.sl.v970, topRun.sl.v973, topRun.sl.v976, topRun.sl.v979,
    topRun.sl.v982, topRun.sl.v985, topRun.sl.v988, topRun.sl.v991, topRun.sl.v994, topRun.sl.v997, topRun.sl.v1000, topRun.sl.v1003, topRun.sl.v1006,
    topRun.sl.v1009, topRun.sl.v1012, topRun.sl.v1015, topRun.sl.v1018, topRun.sl.v1021, topRun.sl.v1024, topRun.sl.v1027, topRun.sl.v1030,
    topRun.sl.v1033, topRun.sl.Hs0_10, topRun.sl.Hs1_10, topRun.sl.Hs2_10, topRun.sl.Hs3_10, k0_pay1, k0_pay2, k0_pay95, k0_pay96, k0_pay97, k0_pay98,
    k0_pay99, k0_pay100, k0_pay101, k0_pay102, k0_pay103, k0_pay104, k0_pay105, k0_pay106, k0_pay107, k0_pay108, k0_pay109, k0_pay110, k0_pay111,
    k0_pay112, k0_pay113, k0_pay114, k0_pay115, k0_pay116, k0_pay117, k0_pay118, k0_pay119, k0_pay120, k0_pay121, k0_pay122, k0_pay123, k0_pay124,
    k0_pay125, k0_pay126, k0_pay127, k0_pay128, k0_pay129, k0_pay130, k0_pay131, k0_pay132, k0_pay133, k0_pay134, k0_pay135, k0_pay136, k0_pay137,
    k0_pay138, k0_pay139, k0_pay140, k0_pay141, k0_pay142, k0_pay143, k0_pay144, k0_pay145, k0_pay146, k0_pay147, k0_pay148, k0_pay149, k0_pay150,
    k0_pay151, k0_pay152, k0_pay153, k0_pay154, k0_pay155, k0_pay156, k0_pay157, k0_pay158, k0_pay159, k0_pay160, k0_pay161, k0_pay162, k0_pay163,
    k0_pay164, k0_pay165, k0_pay166, k0_pay167, k0_pay168, k0_pay169, k0_pay170, k0_pay171, k0_pay172, k0_pay173, k0_pay174, k0_pay175, k0_pay176,
    k0_pay177, k0_pay178, k0_pay179, k0_pay180, k0_pay181, k0_pay182, k0_pay183, k0_pay184, k0_pay185, k0_pay186, k0_pay187, k0_pay188, k0_pay189,
    k0_pay190, k0_pay191, k0_pay192, k0_pay193, k0_pay194, k0_pay195, k0_pay196, k0_pay197, k0_pay198, k0_pay199, k0_pay200, k0_pay201, k0_pay202,
    k0_pay203, k0_pay204, k0_pay205, k0_pay206, k0_pay207, k0_pay208, k0_pay209, k0_pay210, k0_pay211, k0_pay212, k0_pay213, k0_pay214, k0_pay215,
    k0_pay216, k0_pay217, k0_pay218, k0_pay219, k0_pay220, k0_pay221, k0_pay222, k0_pay223, k0_pay224, k0_pay225, k0_pay226, k0_pay227, k0_pay228,
    k0_pay229, k0_pay230, k0_pay231, k0_pay232, k0_pay233, k0_pay234, k0_pay235, k0_pay236, k0_pay237, k0_pay238, k0_pay239, k0_pay240, k0_pay241,
    k0_pay242, k0_pay243, k0_pay244, k0_pay245, k0_pay246, k0_pay247, k0_pay248, k0_pay249, k0_pay250, k0_pay251, k0_pay252, k0_pay253, k0_pay254,
    k0_pay255, k0_pay256, k0_pay257, k0_pay258, k0_pay259, k0_pay260, k0_pay261, k0_pay262, k0_pay263, k0_pay264, k0_pay265, k0_pay266, k0_pay267,
    k0_pay268, k0_pay269, k0_pay270, k0_pay271, k0_pay272, k0_pay273, k0_pay274, k0_pay275, k0_pay276, k0_pay277, k0_pay278, k0_pay279, k0_pay280,
    k0_pay281, k0_pay282, k0_pay283, k0_pay284, k0_pay285, k0_pay286, k0_pay287, k0_pay288, k0_pay289, k0_pay290, k0_pay291, k0_pay292, k0_pay293,
    k0_pay294, k0_pay295, k0_pay296, k0_pay297, k0_pay298, k0_pay299, k0_pay300, k0_pay301, k0_pay302, k0_pay303, k0_pay304, k0_pay305, k0_pay306,
    k0_pay307, k0_pay308, k0_pay309, k0_pay310, k0_pay311, k0_pay312, k0_pay313, k0_pay314, k0_pay315, k0_pay316, k0_pay317, k0_pay318, k0_pay319,
    k0_pay320, k0_pay321, k0_pay322, k0_pay323, k0_pay324, k0_pay325, k0_pay326, k0_pay327, k0_pay328, k0_pay329, k0_pay330, k0_pay331, k0_pay332,
    k0_pay333, k0_pay334, k0_pay335, k0_pay336, k0_pay337, k0_pay338, k0_pay339, k0_pay340, k0_pay341, k0_pay342, k0_pay343, k0_pay344, k0_pay345,
    k0_pay346, k0_pay347, k0_pay348, k0_pay349, k0_pay350, k0_pay351, k0_pay352, k0_pay353, k0_pay354, k0_pay355, k0_pay356, k0_pay357, k0_pay358,
    k0_pay359, k0_pay360, k0_pay361, k0_pay362, k0_pay363, k0_pay364, k0_pay365, k0_pay366, k0_pay367, k0_pay368, k0_pay369, k0_pay370, k0_pay371,
    k0_pay372, k0_pay373, k0_pay374, k0_pay375, k0_pay376, k0_pay377, k0_pay378, k0_pay379, k0_pay380, k0_pay381, k0_pay382, k0_pay383, k0_pay384,
    k0_pay385, k0_pay386, k0_pay387, k0_pay388, k0_pay389, k0_pay390, k0_pay391, k0_pay392, k0_pay393, k0_pay394, k0_pay395, k0_pay396, k0_pay397,
    k0_pay398, k0_pay399, k0_pay400, k0_pay401, k0_pay402, k0_pay403, k0_pay404, k0_pay405, k0_pay406, k0_pay407, k0_pay408, k0_pay409, k0_pay410,
    k0_pay411, k0_pay412, k0_pay413, k0_pay414, k0_pay415, k0_pay416, k0_pay417, k0_pay418, k0_pay419, k0_pay420, k0_pay421, k0_pay422, k0_pay423,
    k0_pay424, k0_pay425, k0_pay426, k0_pay427, k0_pay428, k0_pay429, k0_pay430, k0_pay431, k0_pay432, k0_pay433, k0_pay434, k0_pay435, k0_pay436,
    k0_pay437, k0_pay438, k0_pay439, k0_pay440, k0_pay441, k0_pay442, k0_pay443, k0_pay444, k0_pay445, k0_pay446, k0_pay447, k0_pay448, k0_pay449,
    k0_pay450, k0_pay451, k0_pay452, k0_pay453, k0_pay454, k0_pay455, k0_pay456, k0_pay457, k0_pay458, k0_pay459, k0_pay460, k0_pay461, k0_pay462,
    k0_pay463, k0_pay464, k0_pay465, k0_pay466, k0_pay467, k0_pay468, k0_pay469, k0_pay470, k0_pay471, k0_pay472, k0_pay473, k0_pay474, k0_pay475,
    k0_pay476, k0_pay477, k0_pay478, k0_pay479, k0_pay480, k0_pay481, k0_pay482, k0_pay483, k0_pay484, k0_pay485, k0_pay486, k0_pay487, k0_pay488,
    k0_pay489, k0_pay490, k0_pay491, k0_pay492, k0_pay493, k0_pay494, k0_pay495, k0_pay496, k0_pay497, k0_pay498, k0_pay499, k0_pay500, k0_pay501,
    k0_pay502, k0_pay503, k0_pay504, k0_pay505, k0_pay506, k0_pay507, k0_pay508, k0_pay509, k0_pay510, k0_pay511, k0_pay512, k0_pay513, k0_pay514,
    k0_pay515, k0_pay516, k0_pay517, k0_pay518, k0_pay519, k0_pay520, k0_pay521, k0_pay522, k0_pay523, k0_pay524, k0_pay525, k0_pay526, k0_pay527,
    k0_pay528, k0_pay529, k0_pay530, k0_pay531, k0_pay532, k0_pay533, k0_pay534, k0_pay535, k0_pay536, k0_pay537, k0_pay538, k0_pay539, k0_pay540,
    k0_pay541, k0_pay542, k0_pay543, k0_pay544, k0_pay545, k0_pay546, k0_pay547, k0_pay548, k0_pay549, k0_pay550, k0_pay551, k0_pay552, k0_pay553,
    k0_pay554, k0_pay555, k0_pay556, k0_pay557, k0_pay558, k0_pay559, k0_pay560, k0_pay561, k0_pay562, k0_pay563, k0_pay564, k0_pay565, k0_pay566,
    k0_pay567, k0_pay568, k0_pay569, k0_pay570, k0_pay571, k0_pay572, k0_pay573, k0_pay574, k0_pay575, k0_pay576, k0_pay577, k0_pay578, k0_pay579,
    k0_pay580, k0_pay581, k0_pay582, k0_pay583, k0_pay584, k0_pay585, k0_pay586, k0_pay587, k0_pay588, k0_pay589, k0_pay590, k0_pay591, k0_pay592,
    k0_pay593, k0_pay594, k0_pay595, k0_pay596, k0_pay597, k0_pay598, k0_pay599, k0_pay600, k0_pay601, k0_pay602, k0_pay603, k0_pay604, k0_pay605,
    k0_pay606, k0_pay607, k0_pay608, k0_pay609, k0_pay610, k0_pay611, k0_pay612, k0_pay613, k0_pay614, k0_pay615, k0_pay616, k0_pay617, k0_pay618,
    k0_pay619, k0_pay620, k0_pay621, k0_pay622, k0_pay623, k0_pay624, k0_pay625, k0_pay626, k0_pay627, k0_pay628, k0_pay629, k0_pay630, k0_pay631,
    k0_pay632, k0_pay633, k0_pay634, k0_pay635, k0_pay636, k0_pay637, k0_pay638, k0_pay639, k0_pay640, k0_pay641, k0_pay642, k0_pay643, k0_pay644,
    k0_pay645, k0_pay646, k0_pay647, k0_pay648, k0_pay649, k0_pay650, k0_pay651, k0_pay652, k0_pay653, k0_pay654, k0_pay655, k0_pay656, k0_pay657,
    k0_pay658, k0_pay659, k0_pay660, k0_pay661, k0_pay662, k0_pay663, k0_pay664, k0_pay665, k0_pay666, k0_pay667, k0_pay668, k0_pay669, k0_pay670,
    k0_pay671, k0_pay672, k0_pay673, k0_pay674, k0_pay675, k0_pay676, k0_pay677, k0_pay678, k0_pay679, k0_pay680, k0_pay681, k0_pay682, k0_pay683,
    k0_pay684, k0_pay685, k0_pay686, k0_pay687, k0_pay688, k0_pay689, k0_pay690, k0_pay691, k0_pay692, k0_pay693, k0_pay694, k0_pay695, k0_pay696,
    k0_pay697, k0_pay698, k0_pay699, k0_pay700, k0_pay701, k0_pay702, k0_pay703, k0_pay704, k0_pay705, k0_pay706, k0_pay707, k0_pay708, k0_pay709,
    k0_pay710, k0_pay711, k0_pay712, k0_pay713, k0_pay714, k0_pay715, k0_pay716, k0_pay717, k0_pay718, k0_pay719, k0_pay720, k0_pay721, k0_pay722,
    k0_pay723, k0_pay724, k0_pay725, k0_pay726, k0_pay727, k0_pay728, k0_pay729, k0_pay730, k0_pay731, k0_pay732, k0_pay733, k0_pay734, k0_pay735,
    k0_pay736, k0_pay737, k0_pay738, k0_pay739, k0_pay740, k0_pay741, k0_pay742, k0_pay743, k0_pay744, k0_pay745, k0_pay746, k0_pay747, k0_pay748,
    k0_pay749, k0_pay750, k0_pay751, k0_pay752, k0_pay753, k0_pay754, k0_pay755, k0_pay756, k0_pay757, k0_pay758, k0_pay759, k0_pay760, k0_pay761,
    k0_pay762, k0_pay763, k0_pay764, k0_pay765, k0_pay766, k0_pay767, k0_pay768, k0_pay769, k0_pay770, k0_pay771, k0_pay772, k0_pay773, k0_pay774,
    k0_pay775, k0_pay776, k0_pay777, k0_pay778, k0_pay779, k0_pay780, k0_pay781, k0_pay782, k0_pay783, k0_pay784, k0_pay785, k0_pay786, k0_pay787,
    k0_pay788, k0_pay789, k0_pay790, k0_pay791, k0_pay792, k0_pay793, k0_pay794, k0_pay795, k0_pay796, k0_pay797, k0_pay798, k0_pay799, k0_pay800,
    k0_pay801, k0_pay802, k0_pay803, k0_pay804, k0_pay805, k0_pay806, k0_pay807, k0_pay808, k0_pay809, k0_pay810, k0_pay811, k0_pay812, k0_pay813,
    k0_pay814, k0_pay815, k0_pay816, k0_pay817, k0_pay818, k0_pay819, k0_pay820, k0_pay821, k0_pay822, k0_pay823, k0_pay824, k0_pay825, k0_pay826,
    k0_pay827, k0_pay828, k0_pay829, k0_pay830, k0_pay831, k0_pay832, k0_pay833, k0_pay834, k0_pay835, k0_pay836, k0_pay837, k0_pay838, k0_pay839,
    k0_pay840, k0_pay841, k0_pay842, k0_pay843, k0_pay844, k0_pay845, k0_pay846, k0_pay847, k0_pay848, k0_pay849, k0_pay850, k0_pay851, k0_pay852,
    k0_pay853, k0_pay854, k0_pay855, k0_pay856, k0_pay857, k0_pay858, k0_pay859, k0_pay860, k0_pay861, k0_pay862, k0_pay863, k0_pay864, k0_pay865,
    k0_pay866, k0_pay867, k0_pay868, k0_pay869, k0_pay870, k0_pay871, k0_pay872, k0_pay873, k0_pay874, k0_pay875, k0_pay876, k0_pay877, k0_pay878,
    k0_pay879, k0_pay880, k0_pay881, k0_pay882, k0_pay883, k0_pay884, k0_pay885, k0_pay886, k0_pay887, k0_pay888, k0_pay889, k0_pay890, k0_pay891,
    k0_pay892, k0_pay893, k0_pay894, k0_pay895, k0_pay896, k0_pay897, k0_pay898, k0_pay899, k0_pay900, k0_pay901, k0_pay902, k0_pay903, k0_pay904,
    k0_pay905, k0_pay906, k0_pay907, k0_pay908, k0_pay909, k0_pay910,
    tile_cast 0 0 (by decide) rfl, tile_cast 8 1 (by decide) rfl, tile_cast 16 2 (by decide) rfl, tile_cast 24 3 (by decide) rfl,
    tile_cast 32 4 (by decide) rfl, tile_cast 40 5 (by decide) rfl, tile_cast 48 6 (by decide) rfl, tile_cast 56 7 (by decide) rfl,

    a0_0, a0_1, a0_2, a0_3, a0_4, a0_5, a0_6, a0_7, a0_8, a0_9, a1_0, a1_1, a1_2, a1_3, a1_4, a1_5, a1_6, a1_7, a1_8, a1_9, a2_0, a2_1, a2_2, a2_3, a2_4, a2_5, a2_6, a2_7, a2_8, a2_9, a3_0, a3_1, a3_2, a3_3, a3_4, a3_5, a3_6, a3_7, a3_8, a3_9,
    hV, hN, fold_MK, fold_RV, fold_CV, fold_RI, fold_CI, fold_RI0, fold_CI0, Nat.reduceAdd]
  exact ⟨rfl, rfl, rfl, rfl⟩

end Cert.Proof.Kernel

end
-- ==== Proof.Found.lean ====
/-
  The call at the ideal values: its scratch keeps the best of the ids gone past, so its two results are the ten best and the
  ten worst ids in order.
-/
module

public import proofs.«01_k».proof.Proof.Scores
public import proofs.«01_k».proof.Proof.TopFold
public import proofs.«01_k».proof.Proof.Region0
public import Idealize.ShloMosaic.Lib.VecWindow

@[expose] public section

noncomputable section

namespace Cert.Proof.Kernel

open Cert.Kernel Cert.Kernel.Gen

open Idealize.ShloMosaic Idealize.ShloMosaic.ValueIdx
open Idealize.ShloMosaic.TcCoe Idealize.ShloMosaic.Tactic

theorem first_iff : ∀ n < 123, Scalar.cmpi .ne (Scalar.extui (Scalar.cmpi .eq (BitVec.ofNat 32 n) 0#32) : BitVec 32) 0#32 = 1#1 ↔ n = 0 := by
  decide +kernel

theorem last_iff : ∀ n < 123, Scalar.cmpi .ne (Scalar.extui (Scalar.cmpi .eq (BitVec.ofNat 32 n) 122#32) : BitVec 32) 0#32 = 1#1 ↔ n = 122 := by
  decide +kernel

/-- A buffer overwritten whole, if at all, reads as the payload or as found. -/
theorem read_reset {F : EltTy → Type} {sp : Space} {S : Shape} {e : EltTy} (v : View sig .tc sp S e) (q : Prop) [Decidable q] (g : v.ty.Contents F)
    {off : Fin S.rank → ℕ} (inb : ∀ a, off a + S.size a ≤ S.size a) (w : (Rect.unit off S.size inb).shape.Idx → F e) :
    (q → v.read F (if _ : q then v.writes F g [⟨Rect.unit off S.size inb, w⟩] else g) = w)
      ∧ (¬ q → v.read F (if _ : q then v.writes F g [⟨Rect.unit off S.size inb, w⟩] else g) = v.read F g) :=
  ⟨fun h => by rw [dif_pos h]; exact View.read_writes_full v g inb w [], fun h => by rw [dif_neg h]⟩

/-- A load of a buffer's own sizes reads the buffer. -/
theorem readCov_own {F : EltTy → Type} [∀ e, Nonempty (F e)] {sp : Space} {S : Shape} {e : EltTy} (v : View sig .tc sp S e) (L : List (View.Piece F S e))
    {off : Fin S.rank → ℕ} (inb : ∀ a, off a + S.size a ≤ S.size a) :
    v.readCov L (Rect.unit off S.size inb).toLoadRect = v.read F (v.writes F v.junk L) := View.readAt_full v _ inb

section Point

variable (m : (ℓ : Loc nD τ sig) → Buf (Elt Ideal) ℓ) (hok : ok0 (tbl m))

/-- An id's score, and its score's negative. -/
def up1 (a : BitVec 32) : EReal := score (tab m) (aid m) a.toNat
def dn1 (a : BitVec 32) : EReal := -up1 m a

/-- The scratch buffers hold, slot by slot, the best and the worst of the ids of the blocks gone past. -/
def Kept (c : Dev nD) (n : ℕ) (g0 : Bf (F := Ideal) c s0) (g1 : Bf (F := Ideal) c s1) (g2 : Bf (F := Ideal) c s2) (g3 : Bf (F := Ideal) c s3) : Prop :=
  n ≠ 0 → Keeps up (up1 m) (n * 8192) (rowAt (s0.view.read (Elt Ideal) g0)) (rowAt (s1.view.read (Elt Ideal) g1))
    ∧ Keeps down (dn1 m) (n * 8192) (rowAt (s2.view.read (Elt Ideal) g2)) (rowAt (s3.view.read (Elt Ideal) g3))

variable (ha : aid m < 1000000) (hR : ∀ a : BitVec 32, a.toNat < 1000000 → up1 m a ≠ ⊥ ∧ up1 m a ≠ ⊤)

theorem start (t : Fin (cfg m hok).N) (g0 : Bf (F := Ideal) c₀ s0) (g1 : Bf (F := Ideal) c₀ s1) (g2 : Bf (F := Ideal) c₀ s2) (g3 : Bf (F := Ideal) c₀ s3)
    (h : Kept m c₀ t.val g0 g1 g2 g3) :
    Keeps up (up1 m) (t.val * 8192) (rowAt (st0 c₀ ((cfg m hok).grid.coords t) g0)) (rowAt (st1 c₀ ((cfg m hok).grid.coords t) g1))
    ∧ Keeps down (dn1 m) (t.val * 8192) (rowAt (st2 c₀ ((cfg m hok).grid.coords t) g2)) (rowAt (st3 c₀ ((cfg m hok).grid.coords t) g3)) := by
  have ht : t.val < 123 := t.isLt.trans_eq N_0
  have hf : topRun.sl.v2 ((cfg m hok).grid.coords t) = 1#1 ↔ t.val = 0 := by
    have := first_iff t.val ht
    rw [← coords_val t] at this ⊢
    exact this
  by_cases h0 : t.val = 0
  · have hq := hf.mpr h0
    rw [h0, Nat.zero_mul]
    refine ⟨keeps_zero up _ _ _ fun j x => ?_, keeps_zero down _ _ _ fun j x => ?_⟩
    · have e : st0 c₀ ((cfg m hok).grid.coords t) g0 = k0_pay46 := (read_reset s0.view _ g0 inb_S10x8x128_S10x8x128_0_0_0 _).1 hq
      rw [e]
      exact up.bot
    · have e : st2 c₀ ((cfg m hok).grid.coords t) g2 = k0_pay47 := (read_reset s2.view _ g2 inb_S10x8x128_S10x8x128_0_0_0 _).1 hq
      rw [e]
      exact down.bot
  · have hq : ¬ _ := fun e => h0 (hf.mp e)
    have e0 : st0 c₀ ((cfg m hok).grid.coords t) g0 = s0.view.read (Elt Ideal) g0 := (read_reset s0.view _ g0 inb_S10x8x128_S10x8x128_0_0_0 _).2 hq
    have e1 : st1 c₀ ((cfg m hok).grid.coords t) g1 = s1.view.read (Elt Ideal) g1 := (read_reset s1.view _ g1 inb_S10x8x128_S10x8x128_0_0_0 _).2 hq
    have e2 : st2 c₀ ((cfg m hok).grid.coords t) g2 = s2.view.read (Elt Ideal) g2 := (read_reset s2.view _ g2 inb_S10x8x128_S10x8x128_0_0_0 _).2 hq
    have e3 : st3 c₀ ((cfg m hok).grid.coords t) g3 = s3.view.read (Elt Ideal) g3 := (read_reset s3.view _ g3 inb_S10x8x128_S10x8x128_0_0_0 _).2 hq
    rw [e0, e1, e2, e3]
    exact h h0

theorem pay52_one (i : grid0.Coords) (y : S1x64x128.Idx) : k0_pay52 i y = 1#1 ↔ (k0_pay51 i y).toNat < 1000000 := by
  have hid := pay51_at i y
  have h0 : (i 0).val < 123 := (i 0).isLt
  have h1 : (y 1).val < 64 := (y 1).isLt
  have h2 : (y 2).val < 128 := (y 2).isLt
  exact slt_million _ (by omega)

theorem select_at {α : Type} {s : Shape} (b : IVec s 1) (x y : s.Idx → α) (j : s.Idx) :
    (b j = 1#1 → select b x y j = x j) ∧ (¬ b j = 1#1 → select b x y j = y j) := ⟨fun h => if_pos h, fun h => if_neg h⟩

section Step

variable (t : Fin (cfg m hok).N)
  (M2 : Memref sig .tc .vmem S1x1x64 .f32) (M3 : Memref sig .tc .vmem S8192x64 .f32)
  (f2 : Bf (F := Ideal) c₀ M2) (f3 : Bf (F := Ideal) c₀ M3)
  (g0 : Bf (F := Ideal) c₀ s0) (g1 : Bf (F := Ideal) c₀ s1) (g2 : Bf (F := Ideal) c₀ s2) (g3 : Bf (F := Ideal) c₀ s3) (d0) (d1)
  (e2 : M2.view.read (Elt Ideal) f2 = stg0 m hok c₀ t d0) (e3 : M3.view.read (Elt Ideal) f3 = stg1 m hok c₀ t d1)
  (hI : Kept m c₀ t.val g0 g1 g2 g3)

include e2 e3 in
theorem v21_eq : (topRun.sl.v21 c₀ ((cfg m hok).grid.coords t) M2 M3 f2 f3) = k0_pay53 ((cfg m hok).grid.coords t) (stg0 m hok c₀ t d0) (stg1 m hok c₀ t d1) := by
  rw [← e2, ← e3]
  exact congrArg₂ (k0_pay53 ((cfg m hok).grid.coords t)) (View.readAt_full M2.view f2 inb_S1x1x64_S1x1x64_0_0_0) (View.readAt_full M3.view f3 inb_S8192x64_S8192x64_0_0)

include e2 e3 in
theorem v23_eq : (topRun.sl.v23 c₀ ((cfg m hok).grid.coords t) M2 M3 f2 f3) = k0_pay54 ((cfg m hok).grid.coords t) (stg0 m hok c₀ t d0) (stg1 m hok c₀ t d1) := by
  rw [← e2, ← e3]
  exact congrArg₂ (k0_pay54 ((cfg m hok).grid.coords t)) (View.readAt_full M2.view f2 inb_S1x1x64_S1x1x64_0_0_0) (View.readAt_full M3.view f3 inb_S8192x64_S8192x64_0_0)

include ha hR e2 e3 hI in
theorem kept_rows :
    Keeps up (up1 m) ((t.val + 1) * 8192) (RV up.p (topRun.sl.v21 c₀ ((cfg m hok).grid.coords t) M2 M3 f2 f3) (rowAt (st0 c₀ ((cfg m hok).grid.coords t) g0)) 8) (RI up.p (topRun.sl.v21 c₀ ((cfg m hok).grid.coords t) M2 M3 f2 f3) (k0_pay51 ((cfg m hok).grid.coords t)) (rowAt (st0 c₀ ((cfg m hok).grid.coords t) g0)) (rowAt (st1 c₀ ((cfg m hok).grid.coords t) g1)) 8)
    ∧ Keeps down (dn1 m) ((t.val + 1) * 8192) (RV down.p (topRun.sl.v23 c₀ ((cfg m hok).grid.coords t) M2 M3 f2 f3) (rowAt (st2 c₀ ((cfg m hok).grid.coords t) g2)) 8) (RI down.p (topRun.sl.v23 c₀ ((cfg m hok).grid.coords t) M2 M3 f2 f3) (k0_pay51 ((cfg m hok).grid.coords t)) (rowAt (st2 c₀ ((cfg m hok).grid.coords t) g2)) (rowAt (st3 c₀ ((cfg m hok).grid.coords t) g3)) 8) := by
  obtain ⟨k0, k1⟩ := start m hok t g0 g1 g2 g3 hI
  have hn : (t.val + 1) * 8192 = t.val * 8192 + 8 * 1024 := by omega
  have hW : ∀ y, (k0_pay51 ((cfg m hok).grid.coords t) y).toNat = t.val * 8192 + (y 1).val * 128 + (y 2).val := fun y => by
    rw [pay51_at, coords_val t]
  rw [hn, v21_eq m hok t M2 M3 f2 f3 d0 d1 e2 e3, v23_eq m hok t M2 M3 f2 f3 d0 d1 e2 e3]
  refine ⟨keeps_tiles up _ _ _ _ _ _ hW (fun y hy => ?_) (fun y hy => ?_) (fun a h => (hR a h).1) k0 8 le_rfl,
    keeps_tiles down _ _ _ _ _ _ hW (fun y hy => ?_) (fun y hy => ?_) (fun a h => ?_) k1 8 le_rfl⟩
  · exact congrArg up.f (((select_at _ _ _ y).1 ((pay52_one _ y).mpr hy)).trans (block_score m hok ha t d0 d1 y hy))
  · exact (congrArg up.f ((select_at _ _ _ y).2 fun h => by have := (pay52_one _ y).mp h; omega)).trans up.bot
  · exact congrArg down.f (((select_at _ _ _ y).1 ((pay52_one _ y).mpr hy)).trans (block_score m hok ha t d0 d1 y hy))
  · exact (congrArg down.f ((select_at _ _ _ y).2 fun h => by have := (pay52_one _ y).mp h; omega)).trans down.bot
  · exact fun h' => (hR a h).2 (EReal.neg_eq_bot_iff.mp h')

include ha hR e2 e3 hI in
/-- What the body leaves in the scratch buffers, over whatever it wrote. -/
theorem kept_after (f0 : s0.view.ty.Contents (Elt Ideal)) (f1 : s1.view.ty.Contents (Elt Ideal)) (f2' : s2.view.ty.Contents (Elt Ideal)) (f3' : s3.view.ty.Contents (Elt Ideal)) :
    Keeps up (up1 m) ((t.val + 1) * 8192)
      (rowAt (s0.view.read (Elt Ideal) (s0.view.writes (Elt Ideal) f0 (topRun.sl.Hs0_10 c₀ ((cfg m hok).grid.coords t) M2 M3 f2 f3 g0))))
      (rowAt (s1.view.read (Elt Ideal) (s1.view.writes (Elt Ideal) f1 (topRun.sl.Hs1_10 c₀ ((cfg m hok).grid.coords t) M2 M3 f2 f3 g0 g1))))
    ∧ Keeps down (dn1 m) ((t.val + 1) * 8192)
      (rowAt (s2.view.read (Elt Ideal) (s2.view.writes (Elt Ideal) f2' (topRun.sl.Hs2_10 c₀ ((cfg m hok).grid.coords t) M2 M3 f2 f3 g2))))
      (rowAt (s3.view.read (Elt Ideal) (s3.view.writes (Elt Ideal) f3' (topRun.sl.Hs3_10 c₀ ((cfg m hok).grid.coords t) M2 M3 f2 f3 g2 g3)))) := by
  obtain ⟨k0, k1⟩ := kept_rows m hok ha hR t M2 M3 f2 f3 g0 g1 g2 g3 d0 d1 e2 e3 hI
  obtain ⟨l0, l1, l2, l3⟩ := lists_fold c₀ ((cfg m hok).grid.coords t) M2 M3 f2 f3 g0 g1 g2 g3
  rw [l0, l1, l2, l3]
  exact ⟨keeps_congr up _ (fun j hj => (read_lst (e := .f32) s0.view f0 _ j hj).symm) (fun j hj => (read_lst (e := .i32) s1.view f1 _ j hj).symm) k0,
    keeps_congr down _ (fun j hj => (read_lst (e := .f32) s2.view f2' _ j hj).symm) (fun j hj => (read_lst (e := .i32) s3.view f3' _ j hj).symm) k1⟩

end Step

variable (gP gN : ℕ → BitVec 32)

/-- The first ten lanes of the first row are the ids `g`. -/
def Lane (g : ℕ → BitVec 32) (o : S8x128.Idx → Elt Ideal .i32) : Prop := ∀ k : Fin 128, k.val < 10 → o (ix2 (0 : Fin 8) k) = g k.val

theorem read_last {F : EltTy → Type} {sp : Space} {S : Shape} {e : EltTy} (v : View sig .tc sp S e) (q : Prop) [Decidable q] (g : v.ty.Contents F)
    {off : Fin S.rank → ℕ} (inb : ∀ a, off a + S.size a ≤ S.size a) (w : q → (Rect.unit off S.size inb).shape.Idx → F e) (h : q) :
    v.read F (if h : q then v.writes F g [⟨Rect.unit off S.size inb, w h⟩] else g) = w h := by
  rw [dif_pos h]; exact View.read_writes_full v g inb (w h) []

variable (hgP : Best.Ranks (up1 m) (fun a => a.toNat < 1000000) gP) (hgN : Best.Ranks (dn1 m) (fun a => a.toNat < 1000000) gN)

include ha hR hgP hgN

theorem steps : Steps m hok (Kept m) (Lane gP) (Lane gN) where
  init _ _ _ _ _ h := absurd rfl h
  step c t M2 h2 M3 h3 M4 h4 M5 h5 f2 f3 f4 f5 g0 g1 g2 g3 d0 d1 e2 e3 hI := by
    obtain rfl := eq_c₀ c
    have hk := kept_after m hok ha hR t M2 M3 f2 f3 g0 g1 g2 g3 d0 d1 e2 e3 hI
    refine ⟨fun _ => hk _ _ _ _, fun hl => ?_⟩
    have ht : t.val < 123 := t.isLt.trans_eq N_0
    have hc : k0_cond2 ((cfg m hok).grid.coords t) = 1#1 := by
      have := (last_iff t.val ht).mpr hl
      rw [← coords_val t] at this
      exact this
    obtain ⟨kp, kn⟩ := hk s0.view.junk s1.view.junk s2.view.junk s3.view.junk
    have hn : 1000000 ≤ (t.val + 1) * 8192 := by omega
    refine ⟨fun k hk10 => ?_, fun k hk10 => ?_⟩
    · refine (congrFun ((read_last M4.view _ f4 inb_S8x128_S8x128_0_0 _ hc).trans (best_ids c₀ _ M2 M3 f2 f3 g0 g1)) _).trans ?_
      have r0 : topRun.sl.v1045 c₀ ((cfg m hok).grid.coords t) M2 M3 f2 f3 g0
          = s0.view.read (Elt Ideal) (s0.view.writes (Elt Ideal) s0.view.junk (topRun.sl.Hs0_10 c₀ ((cfg m hok).grid.coords t) M2 M3 f2 f3 g0)) := by
        unfold topRun.sl.v1045; exact readCov_own s0.view _ inb_S10x8x128_S10x8x128_0_0_0
      have r1 : topRun.sl.v1046 c₀ ((cfg m hok).grid.coords t) M2 M3 f2 f3 g0 g1
          = s1.view.read (Elt Ideal) (s1.view.writes (Elt Ideal) s1.view.junk (topRun.sl.Hs1_10 c₀ ((cfg m hok).grid.coords t) M2 M3 f2 f3 g0 g1)) := by
        unfold topRun.sl.v1046; exact readCov_own s1.view _ inb_S10x8x128_S10x8x128_0_0_0
      refine (congrFun (congrArg₂ (fun G H => ids .maximumf 0xFF800000#32 rfl G H 10) r0 r1) _).trans ?_
      exact ids_of_keeps up (up1 m) _ hn _ _ gP kp hgP (fun a h => (hR a h).1) k hk10
    · refine (congrFun ((read_last M5.view _ f5 inb_S8x128_S8x128_0_0 _ hc).trans (worst_ids c₀ _ M2 M3 f2 f3 g2 g3)) _).trans ?_
      have r2 : topRun.sl.v1275 c₀ ((cfg m hok).grid.coords t) M2 M3 f2 f3 g2
          = s2.view.read (Elt Ideal) (s2.view.writes (Elt Ideal) s2.view.junk (topRun.sl.Hs2_10 c₀ ((cfg m hok).grid.coords t) M2 M3 f2 f3 g2)) := by
        unfold topRun.sl.v1275; exact readCov_own s2.view _ inb_S10x8x128_S10x8x128_0_0_0
      have r3 : topRun.sl.v1276 c₀ ((cfg m hok).grid.coords t) M2 M3 f2 f3 g2 g3
          = s3.view.read (Elt Ideal) (s3.view.writes (Elt Ideal) s3.view.junk (topRun.sl.Hs3_10 c₀ ((cfg m hok).grid.coords t) M2 M3 f2 f3 g2 g3)) := by
        unfold topRun.sl.v1276; exact readCov_own s3.view _ inb_S10x8x128_S10x8x128_0_0_0
      refine (congrFun (congrArg₂ (fun G H => ids .minimumf 0x7F800000#32 rfl G H 10) r2 r3) _).trans ?_
      exact ids_of_keeps down (dn1 m) _ hn _ _ gN kn hgN (fun a h h' => (hR a h).2 (EReal.neg_eq_bot_iff.mp h')) k hk10

end Point

end Cert.Proof.Kernel

end
-- ==== Proof.Ids.lean ====
/-
  The value claim: the kernel's ids and the reference's are the same ten in both directions.
-/
module

public import proofs.«01_k».proof.Defs
public import proofs.«01_k».proof.Proof.Ranked
public import proofs.«01_k».proof.Proof.Found
public import proofs.«01_k».proof.Proof.Run0
public import proofs.«01_k».proof.Proof.Same
public import proofs.«01_k».proof.Proof.Gen.ReferenceIdeal.Run

@[expose] public section

noncomputable section

namespace Cert.Proof.Kernel

open Cert.Kernel Cert.Kernel.Gen
open Idealize.ShloMosaic Idealize.ShloMosaic.ValueIdx
open Idealize.ShloMosaic.TcCoe Idealize.SL.Sem

variable (m : (ℓ : Loc nD τ sig) → Buf (Elt Ideal) ℓ)

/-- The ten ids of a row of scores, as the reference writes them. -/
def tenIds (X : FVec Ideal (Sorted.Row 1000000) .f32) : IVec S10 32 :=
  shapeCast S10 (Host.topK S1x10 1 (FloatOps.cmpfTotal (F := Ideal) (φ := .f32) .gt) X Cert.ReferenceIdeal.Facts₀.sliceFits_S1x1000000_S1x10).2 shapeCasts_S1x10_S10

theorem tenIds_at (X : FVec Ideal (Sorted.Row 1000000) .f32) (k : Fin 10) : tenIds X (ix1 k) = Sorted.best (by decide) X k.val := by
  have hk : k.val < 1000000 := by have := k.isLt; omega
  refine (shapeCast_1a_a_apply _ _ k).trans ((Sorted.topK_at X _ k hk).2.trans ?_)
  exact congrArg (fun q => BitVec.ofNat 32 (Sorted.pos X q).val) (Fin.ext (Nat.mod_eq_of_lt hk).symm)

/-- The kernel's ten ids out of the first lane of a list. -/
theorem lane_ids (g : ℕ → BitVec 32) (o : IVec S8x128 32) (h : Lane g o) (X : FVec Ideal (Sorted.Row 1000000) .f32)
    (hg : ∀ k : Fin 10, g k.val = Sorted.best (by decide) X k.val) :
    shapeCast S10 (extractStridedSlice S1x10 ![0, 0] o slices_S8x128_S1x10_0_0) shapeCasts_S1x10_S10 = tenIds X := by
  funext j
  obtain ⟨k, rfl⟩ : ∃ k : Fin 10, j = ix1 k := ⟨j 0, eq_ix1 j⟩
  rw [tenIds_at, ← hg]
  have hk := k.isLt
  refine (shapeCast_1a_a_apply _ _ k).trans ((extractStridedSlice_apply _ _ _ _ (ix2 (0 : Fin 8) (⟨k.val, by omega⟩ : Fin 128)) fun a => ?_).trans (h ⟨k.val, by omega⟩ hk))
  match a with
  | ⟨0, _⟩ => rfl
  | ⟨1, _⟩ => exact (Nat.zero_add k.val).symm

theorem V3_v6 (c : Dev nD) (o : Out2 (F := Ideal) c) :
    StableHlo.after hostOps1 (V2 m c o) main_v6 = shapeCast S10 (extractStridedSlice S1x10 ![0, 0] o.1 slices_S8x128_S1x10_0_0) shapeCasts_S1x10_S10 := rfl
theorem V3_v8 (c : Dev nD) (o : Out2 (F := Ideal) c) :
    StableHlo.after hostOps1 (V2 m c o) main_v8 = shapeCast S10 (extractStridedSlice S1x10 ![0, 0] o.2 slices_S8x128_S1x10_0_0) shapeCasts_S1x10_S10 := rfl

/-- The anchors and the table of a memory, at their value types. -/
abbrev argX (c : Dev nD) : IVec S1024x3 32 := m ((c : Thread nD τ).loc main_arg0)
abbrev argT (c : Dev nD) : FVec Ideal S1000000x64 .f32 := m ((c : Thread nD τ).loc main_arg1)

/-- The kernel's run at the precondition: its ids are the best of the reference's scores. -/
theorem kernel_ids (ρ : Dev nD → PrngReg) (hm : Cert.Pre_scores_apart.fn (F := Ideal) (argX m c₀) (argT m c₀) = fun _ => 1#1) :
    θ_run (Cert.Kernel.defs (F := Ideal)) (onTc (τ := τ) (Cert.Kernel.main (F := Ideal))) ⟨m, fun _ => 0, ρ⟩ (fun r => ∀ c : Dev nD,
      r.2.mem ((c.tc : Thread nD τ).loc main_v6) = tenIds (dots (argT m c) (qrow (argX m c) (argT m c)))
      ∧ r.2.mem ((c.tc : Thread nD τ).loc main_v8) = tenIds (dots (argT m c) (Host.negf (qrow (argX m c) (argT m c))))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have ha : aid m < 1000000 := lt_of_pre_apart _ _ hm
  obtain ⟨hT, hu, hd⟩ := said _ _ hm
  have tn : ∀ a : Fin 1000000, (BitVec.ofNat 32 a.val).toNat = a.val := fun a => by
    rw [BitVec.toNat_ofNat, Nat.mod_eq_of_lt]; have := a.isLt; omega
  have hR : ∀ a : BitVec 32, a.toNat < 1000000 → up1 m a ≠ ⊥ ∧ up1 m a ≠ ⊤ := fun a _ => by
    obtain ⟨r, h1, -⟩ := score_real (argT m c₀) hT (aid m) a.toNat
    have h1 : up1 m a = r := h1
    rw [h1]; exact ⟨EReal.coe_ne_bot r, EReal.coe_ne_top r⟩
  have hP := Sorted.ranks (by decide) (by decide) (dots (argT m c₀) (qrow (argX m c₀) (argT m c₀))) (up1 m)
    (fun a => (up_at _ _ ha a).trans (congrArg (score (tab m) (aid m)) (tn a).symm)) hu
  have hN := Sorted.ranks (by decide) (by decide) (dots (argT m c₀) (Host.negf (qrow (argX m c₀) (argT m c₀)))) (dn1 m)
    (fun a => (dn_at _ _ hT ha a).trans (congrArg (fun n => -score (tab m) (aid m) n) (tn a).symm)) hd
  refine (θ_run _ _ _).mono (fun r h c => ?_)
    (run m (ok_of_lt m ha) _ _ _ (steps m (ok_of_lt m ha) ha hR _ _ hP hN) ρ)
  obtain ⟨h0, h1, γ, h6, h8⟩ := h.1 c
  obtain rfl : c = c₀ := Subsingleton.elim _ _
  refine ⟨h6.trans ((V3_v6 m _ _).trans (lane_ids _ _ γ.2.1 _ fun _ => rfl)), h8.trans ((V3_v8 m _ _).trans (lane_ids _ _ γ.2.2 _ fun _ => rfl)), h0, h1⟩

theorem reference_ids (m' : (ℓ : Loc Cert.ReferenceIdeal.nD Cert.ReferenceIdeal.τ Cert.ReferenceIdeal.sig) → Buf (Elt Ideal) ℓ) (ρ : Dev Cert.ReferenceIdeal.nD → PrngReg)
    (X : Dev Cert.ReferenceIdeal.nD → IVec S1024x3 32) (T : Dev Cert.ReferenceIdeal.nD → FVec Ideal S1000000x64 .f32)
    (hX : ∀ c : Dev Cert.ReferenceIdeal.nD, m' ((c.tc : Thread Cert.ReferenceIdeal.nD Cert.ReferenceIdeal.τ).loc Cert.ReferenceIdeal.main_arg0) = X c)
    (hT : ∀ c : Dev Cert.ReferenceIdeal.nD, m' ((c.tc : Thread Cert.ReferenceIdeal.nD Cert.ReferenceIdeal.τ).loc Cert.ReferenceIdeal.main_arg1) = T c) :
    θ_run (Cert.ReferenceIdeal.defs (F := Ideal)) (onTc (τ := Cert.ReferenceIdeal.τ) (Cert.ReferenceIdeal.main (F := Ideal))) ⟨m', fun _ => 0, ρ⟩ (fun r => ∀ c : Dev Cert.ReferenceIdeal.nD,
      r.2.mem ((c.tc : Thread Cert.ReferenceIdeal.nD Cert.ReferenceIdeal.τ).loc Cert.ReferenceIdeal.main_v9) = tenIds (dots (T c) (qrow (X c) (T c)))
      ∧ r.2.mem ((c.tc : Thread Cert.ReferenceIdeal.nD Cert.ReferenceIdeal.τ).loc Cert.ReferenceIdeal.main_v10) = tenIds (dots (T c) (Host.negf (qrow (X c) (T c))))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) := by
  refine (θ_run Cert.ReferenceIdeal.defs _ _).mono (fun r h c => ?_) (Cert.ReferenceIdeal.Value.run (F := Ideal) m' ρ)
  obtain ⟨h9, h10, h0, h1⟩ := h c
  rw [hX, hT] at h9 h10
  exact ⟨h9, h10, h0, h1⟩

theorem algebraic : Cert.algebraic_KernelIdeal_ReferenceIdeal_pre_scores_apart := fun m g m' g' hm hmm => by
  refine ⟨fun c => tenIds (dots (argT m c) (qrow (argX m c) (argT m c))), fun c => tenIds (dots (argT m c) (Host.negf (qrow (argX m c) (argT m c)))), ?_,
    reference_ids m' g' (fun c => argX m c) (fun c => argT m c) (fun c => (hmm c).1) (fun c => (hmm c).2)⟩
  rw [defs_eq, main_eq]
  exact kernel_ids m g (hm c₀)

end Cert.Proof.Kernel

end
-- ==== Proof.RowTable.lean ====
/-
  The gather's prefetched table: the anchor id, the ten positive and the ten negative ids, in range under the
  precondition.
-/
module

public import proofs.«01_k».proof.Proof.Table
public import proofs.«01_k».proof.Proof.Taken
public import proofs.«01_k».proof.Proof.Gen.Gather.Frame
public import proofs.«01_k».proof.Proof.Gen.Pre_ids_in_table
public import Idealize.ShloMosaic.Lib.ReduceAll

@[expose] public section

noncomputable section

namespace Cert.Proof.Rows

open Cert.Gather Cert.Gather.Gen
open Idealize.ShloMosaic Idealize.ShloMosaic.ValueIdx
open Idealize.ShloMosaic.TcCoe
open Cert.Proof.Kernel (anchor both lt_of_tests)

variable {F : FTy → Type} [FloatOps F]
variable (m : (ℓ : Loc nD τ sig) → Buf (Elt F) ℓ)

/-- The 21 ids in the order of the gather's blocks. -/
def idOf (x : IVec S1024x3 32) (p n : IVec S10 32) (i : Fin 21) : BitVec 32 :=
  if i.val = 0 then anchor x
  else if h : i.val < 11 then p (ix1 (⟨i.val - 1, by omega⟩ : Fin 10))
  else n (ix1 (⟨i.val - 11, by have := i.isLt; omega⟩ : Fin 10))

theorem idOf_zero (x : IVec S1024x3 32) (p n : IVec S10 32) : idOf x p n 0 = anchor x := if_pos rfl

theorem idOf_pos (x : IVec S1024x3 32) (p n : IVec S10 32) (k : Fin 10) (i : Fin 21) (hi : i.val = 1 + k.val) : idOf x p n i = p (ix1 k) := by
  have := k.isLt
  unfold idOf
  rw [if_neg (by omega), dif_pos (by omega)]
  exact congrArg (fun q => p (ix1 q)) (Fin.ext (by show i.val - 1 = k.val; omega))

theorem idOf_neg (x : IVec S1024x3 32) (p n : IVec S10 32) (k : Fin 10) (i : Fin 21) (hi : i.val = 11 + k.val) : idOf x p n i = n (ix1 k) := by
  unfold idOf
  rw [if_neg (by omega), dif_neg (by omega)]
  exact congrArg (fun q => n (ix1 q)) (Fin.ext (by show i.val - 11 = k.val; omega))

/-- Ids in range, the ten positive of them and the ten negative. -/
theorem ids_lt_pos {x : IVec S1024x3 32} {p n : IVec S10 32} (h : ∀ i, (idOf x p n i).toNat < 1000000) (j : S10.Idx) : (p j).toNat < 1000000 := by
  have hj : (j (0 : Fin 1)).val < 10 := (j (0 : Fin 1)).isLt
  have e := (idOf_pos x p n (j (0 : Fin 1)) ⟨1 + (j (0 : Fin 1)).val, by omega⟩ rfl).trans (congrArg p (ValueIdx.eq_ix1 j).symm)
  exact e ▸ h _

theorem ids_lt_neg {x : IVec S1024x3 32} {p n : IVec S10 32} (h : ∀ i, (idOf x p n i).toNat < 1000000) (j : S10.Idx) : (n j).toNat < 1000000 := by
  have hj : (j (0 : Fin 1)).val < 10 := (j (0 : Fin 1)).isLt
  have e := (idOf_neg x p n (j (0 : Fin 1)) ⟨11 + (j (0 : Fin 1)).val, by omega⟩ rfl).trans (congrArg n (ValueIdx.eq_ix1 j).symm)
  exact e ▸ h _

/-- The three operands joined, read at a block's number. -/
theorem joined_at (x : IVec S1024x3 32) (a : IVec S1 32) (p n : IVec S10 32) (ha : ∀ j, a j = anchor x)
    (h : Shape.Concatenates [S1, S10, S10] S21 0) (i : Fin 21) :
    concatenate S21 0 [⟨S1, a⟩, ⟨S10, p⟩, ⟨S10, n⟩] h (ix1 i) = idOf x p n i := by
  have hi := i.isLt
  let xs : List ((s : Shape) × (s.Idx → BitVec 32)) := [⟨S1, a⟩, ⟨S10, p⟩, ⟨S10, n⟩]
  have off : ∀ (b : Fin 1) (P : Prop), b ≠ (0 : Fin 1) → P := fun b _ hb => absurd (Subsingleton.elim b 0) hb
  rcases Nat.eq_zero_or_pos i.val with h0 | h0
  · refine (concatenate_apply_piece (t := S21) (0 : Fin 1) xs h (ix1 i) 0 (by decide : 0 < 3) S1 a rfl rfl 0 rfl (ix1 (0 : Fin 1)) (fun b hb => off b _ hb) h0.symm).trans ?_
    rw [ha]
    exact (if_pos h0).symm
  · rcases Nat.lt_or_ge i.val 11 with h1 | h1
    · refine (concatenate_apply_piece (t := S21) (0 : Fin 1) xs h (ix1 i) 1 (by decide : 1 < 3) S10 p rfl rfl 1 rfl (ix1 (⟨i.val - 1, by omega⟩ : Fin 10)) (fun b hb => off b _ hb) ?_).trans ?_
      · show 1 + (i.val - 1) = i.val; omega
      · exact (idOf_pos x p n ⟨i.val - 1, by omega⟩ i (by show i.val = 1 + (i.val - 1); omega)).symm
    · refine (concatenate_apply_piece (t := S21) (0 : Fin 1) xs h (ix1 i) 2 (by decide : 2 < 3) S10 n rfl rfl 11 rfl (ix1 (⟨i.val - 11, by omega⟩ : Fin 10)) (fun b hb => off b _ hb) ?_).trans ?_
      · show 11 + (i.val - 11) = i.val; omega
      · exact (idOf_neg x p n ⟨i.val - 11, by omega⟩ i (by show i.val = 11 + (i.val - 11); omega)).symm

/-- The arguments of a memory, at their value types. -/
abbrev argX (c : Dev nD) : IVec S1024x3 32 := m ((c : Thread nD τ).loc main_arg0)
abbrev argP (c : Dev nD) : IVec S10 32 := m ((c : Thread nD τ).loc main_arg1)
abbrev argN (c : Dev nD) : IVec S10 32 := m ((c : Thread nD τ).loc main_arg2)
abbrev argT (c : Dev nD) : FVec F S1000000x64 .f32 := m ((c : Thread nD τ).loc main_arg3)
abbrev c₀ : Dev nD := 0

/-- The id of block `i`. -/
def rid (i : Fin 21) : BitVec 32 := idOf (argX m c₀) (argP m c₀) (argN m c₀) i

theorem tbl_at (i : Fin 21) : (tbl m 0 : IVec S21 32) (ix1 i) = rid m i := by
  have h : (V m c₀ main_v3 : IVec S21 32) = concatenate S21 0 [⟨S1, (shapeCast S1 (shapeCast S_ (extractStridedSlice S1x1 ![1023, 0] (argX m c₀) slices_S1024x3_S1x1_1023_0) shapeCasts_S1x1_S_) shapeCasts_S_S1 : IVec S1 32)⟩, ⟨S10, argP m c₀⟩, ⟨S10, argN m c₀⟩] concatenates_S1_S10_S10_S21_d0 := rfl
  refine (congrFun h (ix1 i)).trans (joined_at _ _ _ _ (fun j => ?_) _ i)
  unfold anchor
  rw [shapeCast]
  congr 1

/-- Window 0's block index at a point: the point's id. -/
theorem index0 (i : grid0.Coords) : cc0_transform_0 k0_off1_inb numel1_S1 (tbl m) i = ![(rid m (i 0)).toNat, 0, 0] := by
  have h : (Rect.unit (s := S21) ![(BitVec.ofNat 32 (i 0).val).toNat] S1.size (k0_off1_inb i)).emb (Shape.Idx.first (numel1_S1.symm ▸ Nat.one_pos)) = ix1 (i 0) := by
    funext a
    obtain rfl : a = (0 : Fin 1) := Subsingleton.elim _ _
    refine Fin.ext ?_
    rw [Rect.emb_apply]
    show (BitVec.ofNat 32 (i 0).val).toNat + 1 * _ = (i 0).val
    have hi : (i 0).val < 21 := (i 0).isLt
    have hf : (Shape.Idx.first (s := S1) (numel1_S1.symm ▸ Nat.one_pos) (0 : Fin 1)).val < 1 := (Shape.Idx.first (s := S1) (numel1_S1.symm ▸ Nat.one_pos) (0 : Fin 1)).isLt
    have hf : (Shape.Idx.first (s := S1) (numel1_S1.symm ▸ Nat.one_pos) (0 : Fin 1)).val = 0 := by omega
    have hv : (BitVec.ofNat 32 (i 0).val).toNat = (i 0).val := by rw [BitVec.toNat_ofNat, Nat.mod_eq_of_lt (by omega)]
    exact (congrArg₂ (fun p q => p + 1 * q) hv hf).trans (by omega)
  exact congrArg (fun v : BitVec 32 => ![v.toNat, 0, 0]) ((congrArg (tbl m 0 : IVec S21 32) h).trans (tbl_at m (i 0)))

/-- Ids in range make the table admissible. -/
theorem ok_of_lt (h : ∀ i : Fin 21, (rid m i).toNat < 1000000) : Ok m := fun i => by
  refine ⟨fun a => ?_, .inl rfl⟩
  rw [index0]
  have := h (i 0)
  fin_cases a
  · show ((rid m (i 0)).toNat + 1) * 1 ≤ 1000000; omega
  · show (0 + 1) * 1 ≤ 1; decide
  · show (0 + 1) * 64 ≤ 64; decide

instance : Subsingleton Cert.Pre_ids_in_table.S_.Idx := ⟨fun a b => funext fun q => q.elim0⟩

/-- The precondition's range test of ten ids. -/
theorem ten_lt (p : IVec S10 32)
    (h : Host.reduce IntOp.andi (andi (cmpi .sge p (broadcastInDim S10 ![] Cert.Pre_ids_in_table.Facts.bcast_S_S10 (constantI Cert.Pre_ids_in_table.S_ 32 0#32)))
        (cmpi .slt p (broadcastInDim S10 ![] Cert.Pre_ids_in_table.Facts.bcast_S_S10 (constantI Cert.Pre_ids_in_table.S_ 32 1000000#32))))
      (constantI Cert.Pre_ids_in_table.S_ 1 1#1) Cert.Pre_ids_in_table.Facts.reducesTo_S10_S_d0 Cert.Pre_ids_in_table.Facts.h_S_ (fun a => a.elim0) = 1#1)
    (j : S10.Idx) : (p j).toNat < 1000000 := by
  have := Host.reduce_andi_all _ _ _ _ _ h j
  have h : IntOp.andi (IntOp.cmpi .sge (p j) 0#32) (IntOp.cmpi .slt (p j) 1000000#32) = 1#1 := this
  obtain ⟨h0, h1⟩ := both _ _ h
  exact lt_of_tests _ h0 h1

theorem lt_of_pre (x : IVec S1024x3 32) (p n : IVec S10 32) (y : FVec F S1000000x64 .f32)
    (h : Cert.Pre_ids_in_table.fn x p n y = fun _ => 1#1) (i : Fin 21) : (idOf x p n i).toNat < 1000000 := by
  have h := congrFun h (fun a => a.elim0)
  unfold Cert.Pre_ids_in_table.fn Cert.Pre_ids_in_table.fn_part1 at h
  have h := h
  obtain ⟨h, hn⟩ := both _ _ h
  obtain ⟨ha, hp⟩ := both _ _ h
  have ha : IntOp.andi (IntOp.cmpi .sge (anchor x) 0#32) (IntOp.cmpi .slt (anchor x) 1000000#32) = 1#1 := ha
  obtain ⟨h0, h1⟩ := both _ _ ha
  unfold idOf
  split
  · exact lt_of_tests _ h0 h1
  · split
    · exact ten_lt p hp _
    · exact ten_lt n hn _

end Cert.Proof.Rows

end
-- ==== Proof.RowRun.lean ====
/-
  What the gather leaves: block i of its result is the table's row of the i-th id.
-/
module

public import proofs.«01_k».proof.Proof.RowTable
public import Idealize.ShloMosaic.Lib.Pipeline.ValueKit

@[expose] public section

noncomputable section

namespace Cert.Proof.Rows

open Cert.Gather Cert.Gather.Gen
open Idealize.ShloMosaic hiding ix1 ix2 ix3
open Idealize.ShloMosaic.ValueIdx
open Idealize.ShloMosaic.TcCoe Idealize.SL.Sem

variable {F : FTy → Type} [FloatOps F]
variable (m : (ℓ : Loc nD τ sig) → Buf (Elt F) ℓ)

/-- Element `k` of the row an id names. -/
abbrev rowAt {α : Type} (T : (⟨2, ![1000000, 64]⟩ : Shape).Idx → α) (v : BitVec 32) (k : Fin 64) : α :=
  T (ix2 (⟨v.toNat % 1000000, Nat.mod_lt _ (by decide)⟩ : Fin 1000000) k)

/-- The blocks the gather leaves. -/
def blocks : S21x1x64.Idx → F .f32 := fun j => rowAt (argT m c₀) (rid m (j (0 : Fin 3))) (j (2 : Fin 3))

theorem V_v4 : (V m c₀ main_v4 : FVec F S1000000x1x64 .f32) = shapeCast S1000000x1x64 (argT m c₀) shapeCasts_S1000000x64_S1000000x1x64 := rfl

/-- The window-0 array read at a row. -/
theorem v4_at (r : Fin 1000000) (u : Fin 1) (k : Fin 64) : (V m c₀ main_v4 : FVec F S1000000x1x64 .f32) (ix3 r u k) = argT m c₀ (ix2 r k) := by
  rw [V_v4]
  refine shapeCast_apply _ _ _ _ ?_
  rw [Shape.rowMajor_val_three, Shape.rowMajor_val_two]
  have := u.isLt
  show r.val * 64 + k.val = (r.val * 1 + u.val) * 64 + k.val
  omega

theorem index1 : ∀ i : grid0.Coords, cc0_transform_1 i = ![(i 0).val, 0, 0] := by decide +kernel

variable (hO : Ok m)

/-- Each block number is some point's. -/
theorem point_of : ∀ v : Fin 21, ∃ t : Fin grid0.N, (grid0.coords t 0).val = v.val := by decide +kernel

/-- A unit-stride block of a rank-3 array, placed: the block's offset plus the index. -/
theorem emb1 (t : Fin (cfgM m hO).N) (y : S1x1x64.Idx) :
    (((cfgM m hO).win 1).blk t).view.emb y = ix3 (grid0.coords t 0 : Fin 21) (y (1 : Fin 3)) (y (2 : Fin 3)) := by
  have h0 : (y (0 : Fin 3)).val < 1 := (y (0 : Fin 3)).isLt
  have hi := index1 (grid0.coords t)
  have e : ∀ a : Fin 3, ((((cfgM m hO).win 1).blk t).view.emb y a).val = cc0_transform_1 (grid0.coords t) a * S1x1x64.size a + 1 * (y a).val := fun _ => rfl
  refine (ValueIdx.eq_ix3 (n0 := 21) (n1 := 1) (n2 := 64) _).trans ?_
  have e0 := e 0
  have e1 := e 1
  have e2 := e 2
  rw [hi] at e0 e1 e2
  congr 1 <;> refine Fin.ext ?_
  · refine e0.trans ?_
    show (grid0.coords t 0).val * 1 + 1 * (y (0 : Fin 3)).val = (grid0.coords t 0).val
    omega
  · refine e1.trans ?_
    show 0 * 1 + 1 * (y (1 : Fin 3)).val = (y (1 : Fin 3)).val
    omega
  · refine e2.trans ?_
    show 0 * 64 + 1 * (y (2 : Fin 3)).val = (y (2 : Fin 3)).val
    omega

/-- Every element of the result is in some point's block. -/
theorem cover1 (i : S21x1x64.Idx) : ∃ t : Fin (cfgM m hO).N, ((cfgM m hO).win 1).flush t = true ∧ i ∈ (((cfgM m hO).win 1).blk t).view.set := by
  obtain ⟨t, ht⟩ := point_of (i (0 : Fin 3))
  refine ⟨t, flush0_1 _ t, ?_⟩
  have h : (((cfgM m hO).win 1).blk t).view.emb (ix3 (0 : Fin 1) (i (1 : Fin 3) : Fin 1) (i (2 : Fin 3) : Fin 64)) = i :=
    (emb1 m hO t _).trans ((congrArg (fun q : Fin 21 => ix3 q (i (1 : Fin 3) : Fin 1) (i (2 : Fin 3) : Fin 64)) (Fin.ext ht)).trans (ValueIdx.eq_ix3 (n0 := 21) (n1 := 1) (n2 := 64) i).symm)
  rw [← h]
  exact View.emb_mem_set _ _

theorem pay_at (X : Vec F S1x1x64 .f32) : k0_pay1 X = X := funext fun j => shapeCast_apply X shapeCasts_S1x1x64_S1x1x64 j j rfl

/-- Window 0's block at a point: the row of the point's id. -/
theorem fetched_at (hl : ∀ i : Fin 21, (rid m i).toNat < 1000000) (t : Fin (cfgM m hO).N) (y : S1x1x64.Idx) :
    iblk m hO c₀ 0 t y = rowAt (argT m c₀) (rid m (grid0.coords t 0)) (y (2 : Fin 3)) := by
  have h0 : (y (0 : Fin 3)).val < 1 := (y (0 : Fin 3)).isLt
  have hi := index0 m (grid0.coords t)
  have hv := hl (grid0.coords t 0)
  have e : ∀ a : Fin 3, ((((cfgM m hO).win 0).blk t).view.emb y a).val = cc0_transform_0 k0_off1_inb numel1_S1 (tbl m) (grid0.coords t) a * S1x1x64.size a + 1 * (y a).val := fun _ => rfl
  have he : (((cfgM m hO).win 0).blk t).view.emb y
      = ix3 (⟨(rid m (grid0.coords t 0)).toNat % 1000000, Nat.mod_lt _ (by decide)⟩ : Fin 1000000) (y (1 : Fin 3)) (y (2 : Fin 3)) := by
    refine (ValueIdx.eq_ix3 (n0 := 1000000) (n1 := 1) (n2 := 64) _).trans ?_
    have e0 := e 0
    have e1 := e 1
    have e2 := e 2
    rw [hi] at e0 e1 e2
    congr 1 <;> refine Fin.ext ?_
    · refine e0.trans ?_
      show (rid m (grid0.coords t 0)).toNat * 1 + 1 * (y (0 : Fin 3)).val = (rid m (grid0.coords t 0)).toNat % 1000000
      rw [Nat.mod_eq_of_lt hv]; omega
    · refine e1.trans ?_
      show 0 * 1 + 1 * (y (1 : Fin 3)).val = (y (1 : Fin 3)).val
      omega
    · refine e2.trans ?_
      show 0 * 64 + 1 * (y (2 : Fin 3)).val = (y (2 : Fin 3)).val
      omega
  unfold iblk

  exact (congrArg (V m c₀ main_v4 : FVec F S1000000x1x64 .f32) he).trans (v4_at m _ _ _)

theorem final (hl : ∀ i : Fin 21, (rid m i).toNat < 1000000) : (dats m hO 0 c₀).arrAt 1 (cfgM m hO).N = blocks m := by
  refine (dats m hO 0 c₀).arrAt_eq_of_emb 1 _ (fun t hf y => ?_) (cover1 m hO)
  have hb : blocks m ((((cfgM m hO).win 1).blk t).view.emb y) = rowAt (argT m c₀) (rid m (grid0.coords t 0)) (y (2 : Fin 3)) := by
    rw [emb1 m hO t y]; rfl
  refine Eq.trans ?_ hb.symm
  refine Eq.trans ?_ (fetched_at m hO hl t y)
  show (dats m hO 0 c₀).after 1 t y = _
  rw [after0_1]
  unfold outsAt0
  frame_out
  refine (congrFun (pay_at _) y).trans ?_
  exact congrFun ((hs0_0 m hO t).read_unread (iblk m hO c₀ 0 t)) y

end Cert.Proof.Rows

end
-- ==== Proof.RowOut.lean ====
/-
  The gather's run, its results as rows of the table.
-/
module

public import proofs.«01_k».proof.Proof.RowRun

@[expose] public section

noncomputable section

namespace Cert.Proof.Rows

open Cert.Gather Cert.Gather.Gen
open Idealize.ShloMosaic hiding ix1 ix2 ix3 eq_ix3
open Idealize.ShloMosaic.ValueIdx
open Idealize.ShloMosaic.TcCoe Idealize.SL.Sem

variable {F : FTy → Type} [FloatOps F]
variable (m : (ℓ : Loc nD τ sig) → Buf (Elt F) ℓ)

/-- The row one id names. -/
def oneOf {α : Type} (T : (⟨2, ![1000000, 64]⟩ : Shape).Idx → α) (v : BitVec 32) : S64.Idx → α := fun j => rowAt T v (j (0 : Fin 1))

/-- The rows ten ids name. -/
def tenOf {α : Type} (T : (⟨2, ![1000000, 64]⟩ : Shape).Idx → α) (p : IVec S10 32) : S1x10x64.Idx → α :=
  fun j => rowAt T (p (ix1 (j (1 : Fin 3)))) (j (2 : Fin 3))

/-- The first block, cut out. -/
theorem cut_one {α : Type} (o : S21x1x64.Idx → α) (T : (⟨2, ![1000000, 64]⟩ : Shape).Idx → α) (v : BitVec 32)
    (h : ∀ k : Fin 64, o (ix3 (0 : Fin 21) (0 : Fin 1) k) = rowAt T v k) :
    shapeCast S64 (extractStridedSlice S1x1x64 ![0, 0, 0] o slices_S21x1x64_S1x1x64_0_0_0) shapeCasts_S1x1x64_S64 = oneOf T v := by
  funext j
  refine (shapeCast_apply _ _ j (ix3 (0 : Fin 1) (0 : Fin 1) (j (0 : Fin 1) : Fin 64)) ?_).trans
    ((extractStridedSlice_apply _ _ _ _ (ix3 (0 : Fin 21) (0 : Fin 1) (j (0 : Fin 1) : Fin 64)) fun a => ?_).trans (h _))
  · rw [Shape.rowMajor_val_three, Shape.rowMajor_val_one]
    show (0 * 1 + 0) * 64 + (j (0 : Fin 1)).val = (j (0 : Fin 1)).val
    omega
  · match a with
    | ⟨0, _⟩ => rfl
    | ⟨1, _⟩ => rfl
    | ⟨2, _⟩ => exact (Nat.zero_add _).symm

theorem drop_mid (q : Fin 10) (k : Fin 64) : (S10x1x64.rowMajor (ix3 q (0 : Fin 1) k)).val = (S10x64.rowMajor (ix2 q k)).val := by
  rw [Shape.rowMajor_val_three, Shape.rowMajor_val_two]
  show (q.val * 1 + 0) * 64 + k.val = q.val * 64 + k.val
  omega

/-- Ten blocks in a row, cut out. -/
theorem cut_ten {α : Type} (b : ℕ) (hb : b + 10 ≤ 21) (hs : S21x1x64.Slices ![b, 0, 0] S10x1x64) (o : S21x1x64.Idx → α) (T : (⟨2, ![1000000, 64]⟩ : Shape).Idx → α) (p : IVec S10 32)
    (h : ∀ (q : Fin 10) (k : Fin 64), o (ix3 (⟨b + q.val, by have := q.isLt; omega⟩ : Fin 21) (0 : Fin 1) k) = rowAt T (p (ix1 q)) k) :
    broadcastInDim S1x10x64 ![1, 2] bcast_S10x64_S1x10x64_1_2 (shapeCast S10x64 (extractStridedSlice S10x1x64 ![b, 0, 0] o hs) shapeCasts_S10x1x64_S10x64) = tenOf T p := by
  funext j
  refine (broadcastInDim_apply _ _ _ j (ix2 (j (1 : Fin 3) : Fin 10) (j (2 : Fin 3) : Fin 64)) fun a => ?_).trans
    ((shapeCast_apply _ _ _ (ix3 (j (1 : Fin 3) : Fin 10) (0 : Fin 1) (j (2 : Fin 3) : Fin 64)) (drop_mid _ _)).trans
      ((extractStridedSlice_apply _ _ _ _ (ix3 (⟨b + (j (1 : Fin 3)).val, by have : (j (1 : Fin 3)).val < 10 := (j (1 : Fin 3)).isLt; omega⟩ : Fin 21) (0 : Fin 1) (j (2 : Fin 3) : Fin 64)) fun a => ?_).trans (h _ _)))
  · match a with
    | ⟨0, _⟩ => rfl
    | ⟨1, _⟩ => rfl
  · match a with
    | ⟨0, _⟩ => rfl
    | ⟨1, _⟩ => rfl
    | ⟨2, _⟩ => exact (Nat.zero_add _).symm

/-- The buffers after the gather: its result at what the call left. -/
abbrev after (hO : Ok m) (c : Dev nD) : Valuation τ sig (Elt F) :=
  Pipeline.withArrays spec0 c (V0 m c) fun w => (dats m hO 0 c).arrAt w (cfgM m hO).N

theorem after_v5 (hO : Ok m) (hl : ∀ i : Fin 21, (rid m i).toNat < 1000000) : after m hO c₀ (Proc.devRef .tc main_v5) = blocks m :=
  (Pipeline.withArrays_arr spec0 winFacts0.arr_inj c₀ (V0 m c₀) (fun w => (dats m hO 0 c₀).arrAt w (cfgM m hO).N) 1).trans (final m hO hl)

/-- A buffer after the lines that follow the gather. -/
theorem tail_eq (hO : Ok m) (b : Ref sig .tc) : Pipeline.afterTail pcfgs (fun _ => adm m hO) (dats m hO) 0 (V0 m) [hostOps1] c₀ b
    = StableHlo.after hostOps1 (after m hO c₀) (Proc.devRef .tc b) := rfl

theorem tail_v7 (X : Valuation τ sig (Elt F)) : StableHlo.after hostOps1 X (Proc.devRef .tc main_v7)
    = shapeCast S64 (extractStridedSlice S1x1x64 ![0, 0, 0] (X (Proc.devRef .tc main_v5) : S21x1x64.Idx → F .f32) slices_S21x1x64_S1x1x64_0_0_0) shapeCasts_S1x1x64_S64 := rfl

theorem tail_v10 (X : Valuation τ sig (Elt F)) : StableHlo.after hostOps1 X (Proc.devRef .tc main_v10)
    = broadcastInDim S1x10x64 ![1, 2] bcast_S10x64_S1x10x64_1_2 (shapeCast S10x64 (extractStridedSlice S10x1x64 ![1, 0, 0] (X (Proc.devRef .tc main_v5) : S21x1x64.Idx → F .f32) slices_S21x1x64_S10x1x64_1_0_0) shapeCasts_S10x1x64_S10x64) := rfl

theorem tail_v13 (X : Valuation τ sig (Elt F)) : StableHlo.after hostOps1 X (Proc.devRef .tc main_v13)
    = broadcastInDim S1x10x64 ![1, 2] bcast_S10x64_S1x10x64_1_2 (shapeCast S10x64 (extractStridedSlice S10x1x64 ![11, 0, 0] (X (Proc.devRef .tc main_v5) : S21x1x64.Idx → F .f32) slices_S21x1x64_S10x1x64_11_0_0) shapeCasts_S10x1x64_S10x64) := rfl

/-- The gather's run at ids in range: its results are rows of the table. -/
theorem run (hl : ∀ i : Fin 21, (rid m i).toNat < 1000000) (ρ : Dev nD → PrngReg) :
    θ_run (Cert.Gather.defs (F := F)) (onTc (τ := τ) (Cert.Gather.main (F := F))) ⟨m, fun _ => 0, ρ⟩ (fun r => ∀ c : Dev nD,
      r.2.mem ((c.tc : Thread nD τ).loc main_v7) = oneOf (argT m c) (Cert.Proof.Kernel.anchor (argX m c))
      ∧ r.2.mem ((c.tc : Thread nD τ).loc main_v10) = tenOf (argT m c) (argP m c)
      ∧ r.2.mem ((c.tc : Thread nD τ).loc main_v13) = tenOf (argT m c) (argN m c)) := by
  have hO := ok_of_lt m hl
  refine (θ_run _ _ _).mono (fun r h c => ?_) (run_main m ρ hO)
  obtain rfl : c = c₀ := Subsingleton.elim _ _
  have e5 := after_v5 m hO hl
  have h7 := (h c₀).2 main_v7 (by decide : main_v7 ∈ Pipeline.restRefs sig spec0)
  have h10 := (h c₀).2 main_v10 (by decide : main_v10 ∈ Pipeline.restRefs sig spec0)
  have h13 := (h c₀).2 main_v13 (by decide : main_v13 ∈ Pipeline.restRefs sig spec0)
  refine ⟨(h7.trans ((tail_eq m hO _).trans (tail_v7 _))).trans (cut_one _ _ _ fun k => ?_),
    (h10.trans ((tail_eq m hO _).trans (tail_v10 _))).trans (cut_ten 1 (by decide) _ _ _ _ fun q k => ?_),
    (h13.trans ((tail_eq m hO _).trans (tail_v13 _))).trans (cut_ten 11 (by decide) _ _ _ _ fun q k => ?_)⟩
  · exact (congrFun e5 _).trans (congrArg (fun v => rowAt (argT m c₀) v k) (idOf_zero _ _ _))
  · exact (congrFun e5 _).trans (congrArg (fun v => rowAt (argT m c₀) v k) (idOf_pos _ _ _ q _ rfl))
  · exact (congrFun e5 _).trans (congrArg (fun v => rowAt (argT m c₀) v k) (idOf_neg _ _ _ q _ rfl))

end Cert.Proof.Rows

end
-- ==== Proof.RowTake.lean ====
/-
  The reference's takes: the row of one id, and the rows of ten.
-/
module

public import proofs.«01_k».proof.Proof.RowOut
public import proofs.«01_k».proof.Proof.Gen.RowsIdeal.Run

@[expose] public section

noncomputable section

namespace Cert.Proof.Rows

open Cert.RowsIdeal Cert.RowsIdeal.Gen
open Idealize.ShloMosaic hiding ix1 ix2 ix3 eq_ix3
open Idealize.ShloMosaic.ValueIdx
open Idealize.ShloMosaic.TcCoe Idealize.SL.Sem
open Cert.Proof.Kernel (oneRow oneRow_at toInt_small sge_zero sle_last slt_zero select_of_one anchor)

section Gather
variable {α : Type}

/-- The dimensions of a gather of rows of a matrix, the rows' ids in a row. -/
abbrev someRows (N C K : ℕ) (wf : GatherDims.WF ⟨2, ![N, C]⟩ ⟨3, ![1, K, 1]⟩ ⟨3, ![1, K, C]⟩ [2] [0] [] [0] [] 2 ![1, C]) :
    GatherDims ⟨2, ![N, C]⟩ ⟨3, ![1, K, 1]⟩ ⟨3, ![1, K, C]⟩ where
  offsetDims := [2]
  collapsedSliceDims := [0]
  operandBatchingDims := []
  startIndicesBatchingDims := []
  startIndexMap := [0]
  indexVectorDim := 2
  sliceSizes := ![1, C]
  wf := wf

/-- A gathered row, its id in range. -/
theorem someRows_at {N C K : ℕ} (wf) (x : (⟨2, ![N, C]⟩ : Shape).Idx → α) (idx : IVec ⟨3, ![1, K, 1]⟩ 32) (u : Fin 1) (q : Fin K) (k : Fin C)
    (r : Fin N) (hr : (idx (ix3 u q (0 : Fin 1))).toInt.toNat = r.val) :
    Host.gather (someRows N C K wf) x idx (ix3 u q k) = x (ix2 r k) := by
  unfold Host.gather
  refine congrArg x (funext fun a => Fin.ext ?_)
  show (someRows N C K wf).start (ix3 u q k) idx a + (someRows N C K wf).batchCoord (ix3 u q k) a + (someRows N C K wf).offCoord (ix3 u q k) a = _
  rw [GatherDims.batchCoord_eq_zero _ _ _ List.not_mem_nil]
  have e : a = (0 : Fin 2) ∨ a = (1 : Fin 2) := match a with
    | ⟨0, _⟩ => .inl rfl
    | ⟨1, _⟩ => .inr rfl
  have ne : (1 : Fin 2) ≠ 0 := by decide
  rcases e with rfl | rfl
  · rw [GatherDims.offCoord_eq_zero _ _ _ (fun h => ((GatherDims.mem_sKept _ _).mp h).1 (List.mem_singleton.mpr rfl))]
    unfold GatherDims.start
    rw [dif_pos (show (0 : Fin 2) ∈ (someRows N C K wf).startIndexMap from List.mem_singleton.mpr rfl)]
    have hj : (someRows N C K wf).siIdx (ix3 u q k) ⟨(someRows N C K wf).startIndexMap.idxOf (0 : Fin 2), List.idxOf_lt_length_of_mem (List.mem_singleton.mpr rfl)⟩ = ix3 u q (0 : Fin 1) := by
      funext b
      refine Fin.ext ?_
      match b with
      | ⟨0, _⟩ => rfl
      | ⟨1, _⟩ => rfl
      | ⟨2, _⟩ => rfl
    have hm : min (idx (ix3 u q (0 : Fin 1))).toInt.toNat (N - 1) + 0 + 0 = r.val := by rw [hr]; have := r.isLt; omega
    exact (congrArg (fun s => min (idx s).toInt.toNat (N - 1) + 0 + 0) hj).trans hm
  · unfold GatherDims.start
    rw [dif_neg (show ¬ (1 : Fin 2) ∈ (someRows N C K wf).startIndexMap from fun h => ne (List.mem_singleton.mp h))]
    unfold GatherDims.offCoord
    rw [dif_pos (show (1 : Fin 2) ∈ (someRows N C K wf).sKept from (GatherDims.mem_sKept _ _).mpr
      ⟨fun h => ne (List.mem_singleton.mp h), List.not_mem_nil⟩)]
    exact (Nat.zero_add _).trans rfl

end Gather

variable {F : FTy → Type} [FloatOps F]

/-- An id's row, by its signed value. -/
theorem row_id (v : BitVec 32) (h : v.toNat < 1000000) : v.toInt.toNat = (⟨v.toNat % 1000000, Nat.mod_lt _ (by decide)⟩ : Fin 1000000).val := by
  rw [toInt_small v h, Int.toNat_natCast]
  exact (Nat.mod_eq_of_lt h).symm

/-- An id in range is not counted from the table's end. -/
theorem wrap_eq {s : Shape} (q z n : IVec s 32) (hz : ∀ j, z j = 0#32) (h : ∀ j, (q j).toNat < 1000000) :
    select (cmpi .slt q z) (addi q n) q = q := by
  funext j
  show (if IntOp.cmpi .slt (q j) (z j) = 1#1 then _ else q j) = q j
  rw [hz, slt_zero _ (h j)]; rfl

/-- The range test of ids in range. -/
theorem in_range {s : Shape} (q z n : IVec s 32) (hz : ∀ j, z j = 0#32) (hn : ∀ j, n j = 999999#32) (h : ∀ j, (q j).toNat < 1000000) (j : s.Idx) :
    andi (cmpi .sge q z) (cmpi .sle q n) j = 1#1 := by
  show IntOp.andi (IntOp.cmpi .sge (q j) (z j)) (IntOp.cmpi .sle (q j) (n j)) = 1#1
  rw [hz, hn, sge_zero _ (h j), sle_last _ (h j)]; rfl

/-- The reference's read of one row. -/
theorem take_one (T : FVec F S1000000x64 .f32) (a : IVec S_ 32) (v : BitVec 32) (ha : ∀ j, a j = v) (h : v.toNat < 1000000) :
    select (broadcastInDim S64 ![] bcast_S_S64 (Host.reduce IntOp.andi (andi (cmpi .sge (broadcastInDim S1 ![] bcast_S_S1 (select (cmpi .slt a (constantI S_ 32 0#32)) (addi a (constantI S_ 32 1000000#32)) a)) (broadcastInDim S1 ![] bcast_S_S1 (constantI S_ 32 0#32)))
        (cmpi .sle (broadcastInDim S1 ![] bcast_S_S1 (select (cmpi .slt a (constantI S_ 32 0#32)) (addi a (constantI S_ 32 1000000#32)) a)) (constantI S1 32 999999#32))) (constantI S_ 1 1#1) reducesTo_S1_S_d0 h_S_))
      (Host.gather gather_S1000000x64_S1_S64_0_0_n_n_0_0_164 T (broadcastInDim S1 ![] bcast_S_S1 (select (cmpi .slt a (constantI S_ 32 0#32)) (addi a (constantI S_ 32 1000000#32)) a)))
      (broadcastInDim S64 ![] bcast_S_S64 (constant S_ .f32 0x7FC00000#32 : FVec F S_ .f32)) = oneOf T v := by
  obtain rfl : a = fun _ => v := funext ha
  rw [wrap_eq _ (constantI S_ 32 0#32) _ (fun _ => rfl) fun _ => h]
  funext j
  refine (select_of_one _ _ _ _ ?_).trans ?_
  · refine Host.reduce_andi_one _ _ _ _ _ rfl fun i => ?_
    exact in_range _ _ _ (fun _ => rfl) (fun _ => rfl) (fun _ => h) i
  · rw [ValueIdx.eq_ix1 j]
    exact oneRow_at _ T _ v rfl _ (row_id v h) _

/-- The ten ids as the gather's start indices. -/
theorem start_at (p : IVec S10 32) (u : Fin 1) (i : Fin 10) :
    broadcastInDim S1x10x1 ![0, 1] bcast_S1x10_S1x10x1_0_1 (shapeCast S1x10 p shapeCasts_S10_S1x10) (ix3 u i (0 : Fin 1)) = p (ix1 i) := by
  refine (broadcastInDim_apply _ _ _ _ (ix2 u i) fun a => ?_).trans (shapeCast_a_1a_apply _ _ _ _)
  match a with
  | ⟨0, _⟩ => exact Nat.lt_one_iff.mp u.isLt
  | ⟨1, _⟩ => rfl

/-- The reference's read of ten rows. -/
theorem take_ten (T : FVec F S1000000x64 .f32) (q : IVec S1x10 32) (p : IVec S10 32) (hq : q = shapeCast S1x10 p shapeCasts_S10_S1x10) (h : ∀ j, (p j).toNat < 1000000) :
    select (broadcastInDim S1x10x64 ![0, 1] bcast_S1x10_S1x10x64_0_1 (Host.reduce IntOp.andi (andi (cmpi .sge (broadcastInDim S1x10x1 ![0, 1] bcast_S1x10_S1x10x1_0_1 (select (cmpi .slt q (broadcastInDim S1x10 ![] bcast_S_S1x10 (constantI S_ 32 0#32))) (addi q (broadcastInDim S1x10 ![] bcast_S_S1x10 (constantI S_ 32 1000000#32))) q)) (broadcastInDim S1x10x1 ![] bcast_S_S1x10x1 (constantI S_ 32 0#32)))
        (cmpi .sle (broadcastInDim S1x10x1 ![0, 1] bcast_S1x10_S1x10x1_0_1 (select (cmpi .slt q (broadcastInDim S1x10 ![] bcast_S_S1x10 (constantI S_ 32 0#32))) (addi q (broadcastInDim S1x10 ![] bcast_S_S1x10 (constantI S_ 32 1000000#32))) q)) (broadcastInDim S1x10x1 ![0, 1, 2] bcast_S1x1x1_S1x10x1_0_1_2 (broadcastInDim S1x1x1 ![2] bcast_S1_S1x1x1_2 (constantI S1 32 999999#32))))) (constantI S_ 1 1#1) reducesTo_S1x10x1_S1x10_d2 h_S_))
      (Host.gather gather_S1000000x64_S1x10x1_S1x10x64_2_0_n_n_0_2_164 T (broadcastInDim S1x10x1 ![0, 1] bcast_S1x10_S1x10x1_0_1 (select (cmpi .slt q (broadcastInDim S1x10 ![] bcast_S_S1x10 (constantI S_ 32 0#32))) (addi q (broadcastInDim S1x10 ![] bcast_S_S1x10 (constantI S_ 32 1000000#32))) q)))
      (broadcastInDim S1x10x64 ![] bcast_S_S1x10x64 (constant S_ .f32 0x7FC00000#32 : FVec F S_ .f32)) = tenOf T p := by
  have hl : ∀ j, (q j).toNat < 1000000 := fun j => by rw [hq]; exact h _
  rw [wrap_eq q (broadcastInDim S1x10 ![] bcast_S_S1x10 (constantI S_ 32 0#32)) _ (fun _ => rfl) hl]
  subst hq
  funext j
  refine (select_of_one _ _ _ _ ?_).trans ?_
  · refine Host.reduce_andi_one _ _ _ _ _ rfl fun i => ?_
    exact in_range _ _ _ (fun _ => rfl) (fun _ => rfl) (fun _ => hl _) i
  · rw [ValueIdx.eq_ix3 j]
    refine someRows_at _ T _ _ _ _ _ ?_
    exact (congrArg (fun v : BitVec 32 => v.toInt.toNat) (start_at p _ _)).trans (row_id _ (h _))

end Cert.Proof.Rows

end
-- ==== Proof.RowSame.lean ====
/-
  The gather's idealized program runs the same text as the printed one, so a run of the printed program at any
  float interpretation is a run of the idealized one.
-/
module

public import proofs.«01_k».proof.Proof.Gen.Gather
public import proofs.«01_k».proof.Proof.Gen.GatherIdeal

@[expose] public section

namespace Cert.Proof.Rows

open Idealize.ShloMosaic

variable {F : FTy → Type} [FloatOps F]

theorem body_eq i a1 h1 a2 h2 a3 h3 : Cert.GatherIdeal.cc0__gather_body (F := F) i a1 h1 a2 h2 a3 h3 = Cert.Gather.cc0__gather_body (F := F) i a1 h1 a2 h2 a3 h3 := by with_unfolding_all rfl

theorem defs₀_eq : Cert.GatherIdeal.defs₀ (F := F) = Cert.Gather.defs₀ (F := F) := by
  unfold Cert.GatherIdeal.defs₀ Cert.Gather.defs₀
  refine congrArg (Defs.onTc (nD := Cert.Gather.nD) (τ := Cert.Gather.τ) (sig := Cert.Gather.sig) (Val := Elt F) (Λ := Cert.Gather.Λ₀)) (funext fun l => funext fun p => ?_)
  match l, p with
  | 0, (t, s) => exact body_eq ..

theorem defs_eq : Cert.GatherIdeal.defs (F := F) = Cert.Gather.defs (F := F) := by
  unfold Cert.GatherIdeal.defs Cert.Gather.defs
  rw [defs₀_eq]
  rfl

theorem main_eq : Cert.GatherIdeal.main (F := F) = Cert.Gather.main (F := F) := by rfl

end Cert.Proof.Rows
-- ==== Proof.RowIds.lean ====
/-
  The gather against the reference: frames, and equal results when the ids are in range.
-/
module

public import proofs.«01_k».proof.Defs
public import proofs.«01_k».proof.Proof.RowTake
public import proofs.«01_k».proof.Proof.RowSame

@[expose] public section

noncomputable section

namespace Cert.Proof.Rows

open Idealize.ShloMosaic Idealize.ShloMosaic.TcCoe Idealize.SL.Sem
open Cert.Proof.Kernel (anchor)

theorem frame_gather : Cert.quiescent_Gather := fun m ρ hm => Cert.Gather.Gen.frame m ρ (ok_of_lt m (lt_of_pre _ _ _ _ (hm c₀)))

theorem frame_gather_ideal : Cert.quiescent_GatherIdeal := fun m ρ hm => by
  rw [defs_eq, main_eq]
  exact Cert.Gather.Gen.frame m ρ (ok_of_lt m (lt_of_pre _ _ _ _ (hm c₀)))

theorem frame_rows : Cert.quiescent_RowsIdeal := fun m ρ _ =>
  (θ_run Cert.RowsIdeal.defs _ _).mono (fun r h => ⟨fun c => (h c).2.2.2, sem_eq_zero_of_no_sems (by decide) r.2⟩)
    (Cert.RowsIdeal.Value.run (F := Ideal) m ρ)

theorem frame_rows_in_table : Cert.quiescent_RowsIdeal_pre_ids_in_table := fun m ρ _ => frame_rows m ρ trivial

open Cert.RowsIdeal in
/-- The reference's run at ids in range: its results are rows of the table. -/
theorem rows_run (m : (ℓ : Loc nD τ sig) → Buf (Elt Ideal) ℓ) (ρ : Dev nD → PrngReg) (x : Dev nD → IVec S1024x3 32) (p n : Dev nD → IVec S10 32) (T : Dev nD → FVec Ideal S1000000x64 .f32)
    (hx : ∀ c : Dev nD, m ((c.tc : Thread nD τ).loc main_arg0) = x c) (hp : ∀ c : Dev nD, m ((c.tc : Thread nD τ).loc main_arg1) = p c)
    (hn : ∀ c : Dev nD, m ((c.tc : Thread nD τ).loc main_arg2) = n c) (hT : ∀ c : Dev nD, m ((c.tc : Thread nD τ).loc main_arg3) = T c)
    (hl : ∀ c (i : Fin 21), (idOf (x c) (p c) (n c) i).toNat < 1000000) :
    θ_run (Cert.RowsIdeal.defs (F := Ideal)) (onTc (τ := τ) (Cert.RowsIdeal.main (F := Ideal))) ⟨m, fun _ => 0, ρ⟩ (fun r => ∀ c : Dev nD,
      r.2.mem ((c.tc : Thread nD τ).loc main_v2) = oneOf (T c) (anchor (x c))
      ∧ r.2.mem ((c.tc : Thread nD τ).loc main_v4) = tenOf (T c) (p c)
      ∧ r.2.mem ((c.tc : Thread nD τ).loc main_v6) = tenOf (T c) (n c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run _ _ _).mono (fun r h c => ?_) (Cert.RowsIdeal.Value.run (F := Ideal) m ρ)
  obtain ⟨h2, h4, h6, hr⟩ := h c
  rw [hx c, hT c] at h2
  rw [hp c, hT c] at h4
  rw [hn c, hT c] at h6
  refine ⟨h2.trans (take_one (T c) _ (anchor (x c)) (fun j => ?_) ((idOf_zero (x c) (p c) (n c)).symm ▸ hl c 0)),
    h4.trans (take_ten (T c) _ (p c) rfl (ids_lt_pos (hl c))), h6.trans (take_ten (T c) _ (n c) rfl (ids_lt_neg (hl c))), hr⟩
  obtain rfl : j = fun a => a.elim0 := funext fun a => a.elim0
  rfl

/-- The gather and the reference give the same rows when the ids are in range. -/
theorem algebraic : Cert.algebraic_GatherIdeal_RowsIdeal := fun m g m' g' hm hA => by
  have hl : ∀ i : Fin 21, (rid m i).toNat < 1000000 := lt_of_pre _ _ _ _ (hm c₀)
  refine ⟨fun c => oneOf (argT m c) (anchor (argX m c)), fun c => tenOf (argT m c) (argP m c), fun c => tenOf (argT m c) (argN m c), ?_,
    rows_run m' g' (argX m) (argP m) (argN m) (argT m) (fun c => (hA c).1) (fun c => (hA c).2.1) (fun c => (hA c).2.2.1) (fun c => (hA c).2.2.2)
      fun c i => by obtain rfl : c = c₀ := Subsingleton.elim _ _; exact hl i⟩
  rw [defs_eq, main_eq]
  refine (θ_run _ _ _).mono (fun r h c => ?_) (θ_run_and (run m hl g) (Cert.Gather.Gen.frame m g (ok_of_lt m hl)))
  exact ⟨(h.1 c).1, (h.1 c).2.1, (h.1 c).2.2, h.2.1 c⟩

end Cert.Proof.Rows

end
-- ==== Proof.lean ====
/-
  The certificate's claim: its parts, each proved in the modules under Proof/.
-/
module

public import proofs.«01_k».proof.Defs
public import proofs.«01_k».proof.Proof.Frames
public import proofs.«01_k».proof.Proof.Ids
public import proofs.«01_k».proof.Proof.RowIds

@[expose] public section

noncomputable section

namespace Cert.Proof

theorem claim : Cert.Claim :=
  ⟨Cert.Kernel.Gen.facts, Cert.KernelIdeal.Gen.facts, Cert.ReferenceIdeal.Gen.facts, Cert.Gather.Gen.facts, Cert.GatherIdeal.Gen.facts,
    Cert.RowsIdeal.Gen.facts, Cert.Pre_anchor_in_table.Gen.facts, Cert.Pre_scores_apart.Gen.facts, Cert.Pre_ids_in_table.Gen.facts,
    frame_kernel, frame_ideal, frame_ideal_apart, frame_reference, frame_reference_apart,
    Rows.frame_gather, Rows.frame_gather_ideal, Rows.frame_rows, Rows.frame_rows_in_table,
    trivial, Kernel.algebraic, trivial, Rows.algebraic⟩

end Cert.Proof

end
